-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2048x512 : Shape := ⟨2, ![2048, 512]⟩
abbrev S8 : Shape := ⟨1, ![8]⟩
abbrev S_ : Shape := ⟨0, ![]⟩
abbrev S1 : Shape := ⟨1, ![1]⟩
abbrev S64x512 : Shape := ⟨2, ![64, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S2048x512, .f32⟩
  | .local _ .vmem, ⟨0, _⟩ => ⟨S1024x512, .f32⟩
  | .local _ .vmem, ⟨1, _⟩ => ⟨S2048x512, .f32⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_16 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v25 : BitVec 32 := Scalar.muli v5 c1024_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v24 : BitVec 32 := Scalar.muli v2 c512_i32
  let v28 : BitVec 32 := Scalar.addi v24 c0_i32_16
  let v29 : BitVec 32 := Scalar.addi v25 v28
  let c0_i32_23 : BitVec 32 := 0#32
  ![v29.toNat, 0]
def k0_off2 (d0 : Dev nD) (c0_i32_16 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v24 : BitVec 32 := Scalar.muli v2 c512_i32
  let v28 : BitVec 32 := Scalar.addi v24 c0_i32_16
  let c0_i32_24 : BitVec 32 := 0#32
  ![v28.toNat, 0]
def k0_dev3 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v30 : BitVec 32 := Scalar.muli v2 c8_i32_19
  let v31 : BitVec 32 := Scalar.addi c0_i32_20 v30
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_21 : BitVec 32 := 4#32
  let v32 : BitVec 32 := Scalar.muli v9 c4_i32_21
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v34 : BitVec 32 := Scalar.muli v8 c1_i32_22
  let v35 : BitVec 32 := Scalar.addi v33 v34
  v35.toNat
def k0_dev4 (d0 : Dev nD) : Nat :=
  let c0_i32_28 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_27 : BitVec 32 := 8#32
  let v44 : BitVec 32 := Scalar.muli v2 c8_i32_27
  let v45 : BitVec 32 := Scalar.addi c0_i32_28 v44
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_29 : BitVec 32 := 4#32
  let v46 : BitVec 32 := Scalar.muli v9 c4_i32_29
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v48 : BitVec 32 := Scalar.muli v8 c1_i32_30
  let v49 : BitVec 32 := Scalar.addi v47 v48
  v49.toNat
def k0_dev5 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v58 : BitVec 32 := Scalar.muli v2 c8_i32_35
  let v59 : BitVec 32 := Scalar.addi c0_i32_36 v58
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v60 : BitVec 32 := Scalar.muli v9 c4_i32_37
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v62 : BitVec 32 := Scalar.muli v8 c1_i32_38
  let v63 : BitVec 32 := Scalar.addi v61 v62
  v63.toNat
def k0_dev6 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_42 : BitVec 32 := 8#32
  let v72 : BitVec 32 := Scalar.muli v2 c8_i32_42
  let v73 : BitVec 32 := Scalar.addi c0_i32_43 v72
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_44 : BitVec 32 := 4#32
  let v74 : BitVec 32 := Scalar.muli v9 c4_i32_44
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v76 : BitVec 32 := Scalar.muli v8 c1_i32_45
  let v77 : BitVec 32 := Scalar.addi v75 v76
  v77.toNat
def k0_dev7 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v86 : BitVec 32 := Scalar.muli v2 c8_i32_50
  let v87 : BitVec 32 := Scalar.addi c0_i32_51 v86
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_52 : BitVec 32 := 4#32
  let v88 : BitVec 32 := Scalar.muli v9 c4_i32_52
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v90 : BitVec 32 := Scalar.muli v8 c1_i32_53
  let v91 : BitVec 32 := Scalar.addi v89 v90
  v91.toNat
def k0_dev8 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v100 : BitVec 32 := Scalar.muli v2 c8_i32_57
  let v101 : BitVec 32 := Scalar.addi c0_i32_58 v100
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_59 : BitVec 32 := 4#32
  let v102 : BitVec 32 := Scalar.muli v9 c4_i32_59
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v104 : BitVec 32 := Scalar.muli v8 c1_i32_60
  let v105 : BitVec 32 := Scalar.addi v103 v104
  v105.toNat
def k0_dev9 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v114 : BitVec 32 := Scalar.muli v2 c8_i32_64
  let v115 : BitVec 32 := Scalar.addi c0_i32_65 v114
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_66 : BitVec 32 := 4#32
  let v116 : BitVec 32 := Scalar.muli v9 c4_i32_66
  let v117 : BitVec 32 := Scalar.addi v115 v116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v118 : BitVec 32 := Scalar.muli v8 c1_i32_67
  let v119 : BitVec 32 := Scalar.addi v117 v118
  v119.toNat
def k0_dev10 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v128 : BitVec 32 := Scalar.muli v2 c8_i32_71
  let v129 : BitVec 32 := Scalar.addi c0_i32_72 v128
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_73 : BitVec 32 := 4#32
  let v130 : BitVec 32 := Scalar.muli v9 c4_i32_73
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v132 : BitVec 32 := Scalar.muli v8 c1_i32_74
  let v133 : BitVec 32 := Scalar.addi v131 v132
  v133.toNat
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v25 : BitVec 32 := Scalar.muli v5 c1024_i32
  let v142 : Index := Scalar.indexCast v25
  let c0_78 : Index := 0#32
  ![v142.toNat, 0]
def k0_off4 (d0 : Dev nD) (c0_i32_79 : BitVec 32) : Fin 2 → Nat :=
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_14 v5
  let c1024_i32_15 : BitVec 32 := 1024#32
  let v27 : BitVec 32 := Scalar.muli v26 c1024_i32_15
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v24 : BitVec 32 := Scalar.muli v2 c512_i32
  let v144 : BitVec 32 := Scalar.addi v27 v24
  let v145 : BitVec 32 := Scalar.addi v144 c0_i32_79
  let c0_i32_86 : BitVec 32 := 0#32
  ![v145.toNat, 0]
def k0_dev11 (d0 : Dev nD) : Nat :=
  let c0_i32_91 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_90 : BitVec 32 := 8#32
  let v156 : BitVec 32 := Scalar.muli v10 c8_i32_90
  let v157 : BitVec 32 := Scalar.addi c0_i32_91 v156
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_92 : BitVec 32 := 4#32
  let v158 : BitVec 32 := Scalar.muli v5 c4_i32_92
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v160 : BitVec 32 := Scalar.muli v8 c1_i32_93
  let v161 : BitVec 32 := Scalar.addi v159 v160
  v161.toNat
def k0_dev12 (d0 : Dev nD) : Nat :=
  let c0_i32_108 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_107 : BitVec 32 := 8#32
  let v180 : BitVec 32 := Scalar.muli v10 c8_i32_107
  let v181 : BitVec 32 := Scalar.addi c0_i32_108 v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v182 : BitVec 32 := Scalar.muli v5 c4_i32_109
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v184 : BitVec 32 := Scalar.muli v8 c1_i32_110
  let v185 : BitVec 32 := Scalar.addi v183 v184
  v185.toNat
def k0_dev13 (d0 : Dev nD) : Nat :=
  let c0_i32_125 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_124 : BitVec 32 := 8#32
  let v204 : BitVec 32 := Scalar.muli v10 c8_i32_124
  let v205 : BitVec 32 := Scalar.addi c0_i32_125 v204
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_126 : BitVec 32 := 4#32
  let v206 : BitVec 32 := Scalar.muli v5 c4_i32_126
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v208 : BitVec 32 := Scalar.muli v8 c1_i32_127
  let v209 : BitVec 32 := Scalar.addi v207 v208
  v209.toNat
def k0_dev14 (d0 : Dev nD) : Nat :=
  let c0_i32_142 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_141 : BitVec 32 := 8#32
  let v228 : BitVec 32 := Scalar.muli v10 c8_i32_141
  let v229 : BitVec 32 := Scalar.addi c0_i32_142 v228
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_143 : BitVec 32 := 4#32
  let v230 : BitVec 32 := Scalar.muli v5 c4_i32_143
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v232 : BitVec 32 := Scalar.muli v8 c1_i32_144
  let v233 : BitVec 32 := Scalar.addi v231 v232
  v233.toNat
def k0_dev15 (d0 : Dev nD) : Nat :=
  let c0_i32_159 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_158 : BitVec 32 := 8#32
  let v252 : BitVec 32 := Scalar.muli v10 c8_i32_158
  let v253 : BitVec 32 := Scalar.addi c0_i32_159 v252
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_160 : BitVec 32 := 4#32
  let v254 : BitVec 32 := Scalar.muli v5 c4_i32_160
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v256 : BitVec 32 := Scalar.muli v8 c1_i32_161
  let v257 : BitVec 32 := Scalar.addi v255 v256
  v257.toNat
def k0_dev16 (d0 : Dev nD) : Nat :=
  let c0_i32_176 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_175 : BitVec 32 := 8#32
  let v276 : BitVec 32 := Scalar.muli v10 c8_i32_175
  let v277 : BitVec 32 := Scalar.addi c0_i32_176 v276
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_177 : BitVec 32 := 4#32
  let v278 : BitVec 32 := Scalar.muli v5 c4_i32_177
  let v279 : BitVec 32 := Scalar.addi v277 v278
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v280 : BitVec 32 := Scalar.muli v8 c1_i32_178
  let v281 : BitVec 32 := Scalar.addi v279 v280
  v281.toNat
def k0_dev17 (d0 : Dev nD) : Nat :=
  let c0_i32_193 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_192 : BitVec 32 := 8#32
  let v300 : BitVec 32 := Scalar.muli v10 c8_i32_192
  let v301 : BitVec 32 := Scalar.addi c0_i32_193 v300
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_194 : BitVec 32 := 4#32
  let v302 : BitVec 32 := Scalar.muli v5 c4_i32_194
  let v303 : BitVec 32 := Scalar.addi v301 v302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v304 : BitVec 32 := Scalar.muli v8 c1_i32_195
  let v305 : BitVec 32 := Scalar.addi v303 v304
  v305.toNat
def k0_dev18 (d0 : Dev nD) : Nat :=
  let c0_i32_210 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_209 : BitVec 32 := 8#32
  let v324 : BitVec 32 := Scalar.muli v10 c8_i32_209
  let v325 : BitVec 32 := Scalar.addi c0_i32_210 v324
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_211 : BitVec 32 := 4#32
  let v326 : BitVec 32 := Scalar.muli v5 c4_i32_211
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v328 : BitVec 32 := Scalar.muli v8 c1_i32_212
  let v329 : BitVec 32 := Scalar.addi v327 v328
  v329.toNat
def k0_off5 (d0 : Dev nD) (c0_i32_217 : BitVec 32) : Fin 2 → Nat :=
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_14 v5
  let c1024_i32_15 : BitVec 32 := 1024#32
  let v27 : BitVec 32 := Scalar.muli v26 c1024_i32_15
  let c1_i32_215 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v336 : BitVec 32 := Scalar.subi c1_i32_215 v2
  let c512_i32_216 : BitVec 32 := 512#32
  let v337 : BitVec 32 := Scalar.muli v336 c512_i32_216
  let v338 : BitVec 32 := Scalar.addi v27 v337
  let v339 : BitVec 32 := Scalar.addi v338 c0_i32_217
  let c0_i32_224 : BitVec 32 := 0#32
  ![v339.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdeal.Sched.lean ====
/-
  The exchange of the all-gather kernel as a schedule of rounds: who each device talks to, which rows each
  transfer carries, what every device's result holds at the end, and what each semaphore cell hands over.
  Everything is stated at any float instance.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring.FamCut
public import Idealize.ShloMosaic.Lib.Tactic

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds, and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
noncomputable def s₀ : MemSt nD τ sig (Elt F) := ⟨m, fun _ => 0, ρ⟩

/-! ## The devices -/

/-- The coordinates of a device on the axes `x` and `y`. -/
noncomputable def xc (c : Dev nD) : ℕ := c.val / 8
noncomputable def yc (c : Dev nD) : ℕ := c.val / 4 % 2

/-- The peer across `y`, and the peer across `x`. -/
noncomputable def yp (c : Dev nD) : Dev nD := ⟨(8 * (c.val / 8) + c.val % 4 + 4) - 4 * (c.val / 4 % 2), by have : c.val < 16 := c.isLt; show _ < 16; omega⟩
noncomputable def xp (c : Dev nD) : Dev nD := ⟨(4 * (c.val / 4 % 2) + c.val % 4 + 8) - 8 * (c.val / 8), by have : c.val < 16 := c.isLt; show _ < 16; omega⟩

theorem yp_yp (c : Dev nD) : yp (yp c) = c := by revert c; decide
theorem xp_xp (c : Dev nD) : xp (xp c) = c := by revert c; decide
theorem yp_xp (c : Dev nD) : yp (xp c) = xp (yp c) := by revert c; decide
theorem xc_yp (c : Dev nD) : xc (yp c) = xc c := by revert c; decide
theorem yc_yp (c : Dev nD) : yc (yp c) = 1 - yc c := by revert c; decide
theorem xc_xp (c : Dev nD) : xc (xp c) = 1 - xc c := by revert c; decide
theorem yc_xp (c : Dev nD) : yc (xp c) = yc c := by revert c; decide
theorem xc_lt (c : Dev nD) : xc c < 2 := by revert c; decide
theorem yc_lt (c : Dev nD) : yc c < 2 := by revert c; decide

noncomputable def ypE : Dev nD ≃ Dev nD := ⟨yp, yp, yp_yp, yp_yp⟩
noncomputable def xpE : Dev nD ≃ Dev nD := ⟨xp, xp, xp_xp, xp_xp⟩

/-! ## The buffers and the semaphore cells -/

abbrev xM : Memref sig .tc .vmem S1024x512 .f32 := Memref.whole cc0_stg0_0
abbrev oM : Memref sig .tc .vmem S2048x512 .f32 := Memref.whole cc0_stg1_0
abbrev xLoc (c : Dev nD) : Loc nD τ sig := (c : Thread nD τ).loc cc0_stg0_0
abbrev oLoc (c : Dev nD) : Loc nD τ sig := (c : Thread nD τ).loc cc0_stg1_0

/-- The barrier semaphore. -/
abbrev barS : Sem sig := (SemArray.scalar (sig.barrier 0 rfl) : Sems sig S_).sem
/-- The 32 transfer semaphores, in four rows of eight: row 0 counts the first stage's sends, row 1 its arrivals,
    row 2 the second stage's sends, row 3 its arrivals. -/
noncomputable def xsem (i : Fin 4 × Fin 8) : DmaSem sig := (⟨2 + 8 * i.1.val + i.2.val, by have := i.1.isLt; have := i.2.isLt; omega⟩ : Fin 34)

/-- A device's cells: the barrier, or a transfer semaphore. -/
abbrev Cell : Type := Option (Fin 4 × Fin 8)
noncomputable def csem : Cell → SemLoc sig
  | none => .reg barS
  | some i => .dma (xsem i)
abbrev cell (c : Dev nD) (i : Cell) : GSem nD τ sig := ((c : Thread nD τ), csem i)
abbrev bar (c : Dev nD) : GSem nD τ sig := cell c none
abbrev xfer (c : Dev nD) (q : Fin 4) (k : Fin 8) : GSem nD τ sig := cell c (some (q, k))

theorem csem_injective : Function.Injective csem := by decide
theorem cell_inj {c c' : Dev nD} {i i' : Cell} (h : cell c i = cell c' i') : c = c' ∧ i = i' :=
  ⟨Fin.ext (congrArg (fun g : GSem nD τ sig => g.1.1.val) h), csem_injective (congrArg Prod.snd h)⟩

/-- The row and the place of a transfer semaphore, from its number. -/
noncomputable def semRow (s : DmaSem sig) : Fin 4 := ⟨((s : Fin 34).val - 2) / 8 % 4, Nat.mod_lt _ (by decide)⟩
noncomputable def semCol (s : DmaSem sig) : Fin 8 := ⟨((s : Fin 34).val - 2) % 8, Nat.mod_lt _ (by decide)⟩
theorem semRow_xsem (i : Fin 4 × Fin 8) : semRow (xsem i) = i.1 := by revert i; decide
theorem semCol_xsem (i : Fin 4 × Fin 8) : semCol (xsem i) = i.2 := by revert i; decide
theorem xsem_ge (i : Fin 4 × Fin 8) : 2 ≤ ((xsem i : DmaSem sig) : Fin 34).val := by revert i; decide

/-! ## Rows -/

/-- 64 rows of the result from row `n`, and of the argument block. -/
noncomputable def rowsO (n : ℕ) : Finset (S2048x512).Idx := Finset.univ.filter fun i => n ≤ (i 0).val ∧ (i 0).val < n + 64
noncomputable def rowsX (n : ℕ) : Finset (S1024x512).Idx := Finset.univ.filter fun i => n ≤ (i 0).val ∧ (i 0).val < n + 64

theorem mem_rowsO {n : ℕ} {i : (S2048x512).Idx} : i ∈ rowsO n ↔ n ≤ (i 0).val ∧ (i 0).val < n + 64 := by simp [rowsO]
theorem mem_rowsX {n : ℕ} {i : (S1024x512).Idx} : i ∈ rowsX n ↔ n ≤ (i 0).val ∧ (i 0).val < n + 64 := by simp [rowsX]

/-- A slice of 64 rows of the result, of the argument block. -/
abbrev oSl (off : Fin 2 → ℕ) (h : ∀ a, off a + S64x512.size a ≤ S2048x512.size a) : Memref sig .tc .vmem S64x512 .f32 :=
  oM.slice (Rect.unit (s := S2048x512) off S64x512.size h) (fun _ => rfl)
abbrev xSl (off : Fin 2 → ℕ) (h : ∀ a, off a + S64x512.size a ≤ S1024x512.size a) : Memref sig .tc .vmem S64x512 .f32 :=
  xM.slice (Rect.unit (s := S1024x512) off S64x512.size h) (fun _ => rfl)

theorem oSl_set {off : Fin 2 → ℕ} {n : ℕ} (ho : off = ![n, 0]) (h) : (oSl off h).view.set = rowsO n := by
  subst ho
  refine (View.set_slice_whole cc0_stg1_0 _).trans (Finset.ext fun i => ?_)
  refine (Rect.mem_set_unit).trans (Iff.trans ?_ mem_rowsO.symm)
  refine ⟨fun H => H 0, fun H a => ?_⟩
  have := (i 1).isLt
  fin_cases a
  · exact H
  · exact ⟨Nat.zero_le _, by show (i 1).val < 0 + 512; rw [Nat.zero_add]; exact this⟩

theorem xSl_set {off : Fin 2 → ℕ} {n : ℕ} (ho : off = ![n, 0]) (h) : (xSl off h).view.set = rowsX n := by
  subst ho
  refine (View.set_slice_whole cc0_stg0_0 _).trans (Finset.ext fun i => ?_)
  refine (Rect.mem_set_unit).trans (Iff.trans ?_ mem_rowsX.symm)
  refine ⟨fun H => H 0, fun H a => ?_⟩
  have := (i 1).isLt
  fin_cases a
  · exact H
  · exact ⟨Nat.zero_le _, by show (i 1).val < 0 + 512; rw [Nat.zero_add]; exact this⟩

/-- The first row of the eight chunks that arrive in stage one (`false`: from across `y`) or in stage two
    (`true`: from across `x`), in device `c`'s result. -/
noncomputable def start (c : Dev nD) (b : Bool) : ℕ := 1024 * (1 - yc c) + 512 * (if b then 1 - xc c else xc c)
/-- Chunk `k` of either stage, in `c`'s result; and the chunk of `c`'s own block that stage one sends. -/
noncomputable def chunk (c : Dev nD) (i : Bool × Fin 8) : Finset (S2048x512).Idx := rowsO (start c i.1 + 64 * i.2.val)
noncomputable def piece (c : Dev nD) (k : Fin 8) : Finset (S1024x512).Idx := rowsX (512 * xc c + 64 * k.val)

theorem start_lt (c : Dev nD) (b : Bool) : start c b ≤ 1536 := by revert c b; decide

theorem chunk_disjoint (c : Dev nD) : ∀ i i' : Bool × Fin 8, i ≠ i' → Disjoint (chunk c i) (chunk c i') := by
  rintro ⟨b, k⟩ ⟨b', k'⟩ hne
  rw [Finset.disjoint_left]
  intro i hi hi'
  rw [chunk, mem_rowsO] at hi hi'
  have hx := xc_lt c
  have hk := k.isLt
  have hk' := k'.isLt
  apply hne
  have : b = b' ∧ k.val = k'.val := by
    unfold start at hi hi'
    cases b <;> cases b' <;> simp only [Bool.false_eq_true, if_true, if_false] at hi hi' <;>
      first | exact ⟨rfl, by omega⟩ | (exfalso; omega)
  exact Prod.ext this.1 (Fin.ext this.2)

theorem piece_disjoint (c : Dev nD) : ∀ k k' : Fin 8, k ≠ k' → Disjoint (piece c k) (piece c k') := by
  intro k k' hne
  rw [Finset.disjoint_left]
  intro i hi hi'
  rw [piece, mem_rowsX] at hi hi'
  exact hne (Fin.ext (by omega))

/-- The rows no transfer writes are the rows of the device's own block. -/
noncomputable def own (c : Dev nD) : Finset (S2048x512).Idx := Finset.univ \ Finset.univ.biUnion (chunk c)

theorem mem_own {c : Dev nD} {i : (S2048x512).Idx} : i ∈ own c ↔ (i 0).val / 1024 = yc c := by
  have hi : (i 0).val < 2048 := (i 0).isLt
  have hx := xc_lt c
  have hy := yc_lt c
  rw [own, Finset.mem_sdiff]
  constructor
  · rintro ⟨-, h⟩
    by_contra hne
    apply h
    rw [Finset.mem_biUnion]
    refine ⟨(decide ((i 0).val % 1024 / 512 ≠ xc c), ⟨(i 0).val % 512 / 64, by omega⟩), Finset.mem_univ _, ?_⟩
    rw [chunk, mem_rowsO]
    unfold start
    by_cases hb : (i 0).val % 1024 / 512 = xc c
    · simp only [hb, ne_eq, not_true_eq_false, decide_false, Bool.false_eq_true, if_false]; omega
    · simp only [hb, ne_eq, not_false_eq_true, decide_true, if_true]; omega
  · intro h
    refine ⟨Finset.mem_univ _, fun hm => ?_⟩
    rw [Finset.mem_biUnion] at hm
    obtain ⟨⟨b, k⟩, -, hm⟩ := hm
    rw [chunk, mem_rowsO] at hm
    have hk := k.isLt
    unfold start at hm
    cases b <;> simp only [Bool.false_eq_true, if_true, if_false] at hm <;> omega

/-! ## Contents -/

/-- Device `c`'s own block, as its staging buffer holds it. -/
noncomputable def xstg (c : Dev nD) : (cc0_stg0_0 : Ref sig .tc).ty.Contents (Elt F) :=
  (win0_0.blk (0 : Fin 1)).view.read (Elt F) ((s₀ m ρ).mem ((c : Thread nD τ).loc main_arg0))

/-- A place in the result, as a place in the block it lies in. -/
noncomputable def inBlock (i : (S2048x512).Idx) : (S1024x512).Idx := fun a =>
  match a with
  | ⟨0, _⟩ => ⟨(i 0).val % 1024, Nat.mod_lt _ (by decide)⟩
  | ⟨1, _⟩ => ⟨(i 1).val, (i 1).isLt⟩

/-- The device whose block fills row `n` of device `c`'s result: `c` itself for its own half, and for the other half
    the peer across `y`, reached directly or through the peer across `x`. -/
noncomputable def source (c : Dev nD) (n : ℕ) : Dev nD :=
  if n / 1024 = yc c then c else if n % 1024 / 512 = xc c then yp c else yp (xp c)

/-- What device `c`'s result holds at the end. -/
noncomputable def outAt (c : Dev nD) : (cc0_stg1_0 : Ref sig .tc).ty.Contents (Elt F) := fun i : (S2048x512).Idx => xstg m ρ (source c (i 0).val) (inBlock i)

/-- Rows copied from the argument block of `c` to the result of its peer across `y` are that result's rows. -/
theorem land_first (c : Dev nD) (k : Fin 8) {off off' : Fin 2 → ℕ} (ho : off = ![512 * xc c + 64 * k.val, 0]) (ho' : off' = ![start (yp c) false + 64 * k.val, 0]) (h h')
    (fd : (cc0_stg1_0 : Ref sig .tc).ty.Contents (Elt F)) :
    ∀ i ∈ (oSl off' h').view.set, (oSl off' h').view.write (Elt F) fd ((xSl off h).view.read (Elt F) (xstg m ρ c)) Finset.univ i = outAt m ρ (yp c) i := by
  intro i hi
  obtain ⟨j, -, rfl⟩ := Finset.mem_map.mp hi
  refine (View.write_emb_of_mem (v := (oSl off' h').view) fd _ (Finset.mem_univ j)).trans ?_
  subst ho ho'
  have h0 : (((oSl _ h').view.emb j : (S2048x512).Idx) 0).val = start (yp c) false + 64 * k.val + (j 0).val := by
    show start (yp c) false + 64 * k.val + 1 * (j 0).val = _; omega
  have h1 : (((oSl _ h').view.emb j : (S2048x512).Idx) 1).val = (j 1).val := by
    show 0 + 1 * (j 1).val = _; omega
  have g0 : (((xSl _ h).view.emb j : (S1024x512).Idx) 0).val = 512 * xc c + 64 * k.val + (j 0).val := by
    show 512 * xc c + 64 * k.val + 1 * (j 0).val = _; omega
  have g1 : (((xSl _ h).view.emb j : (S1024x512).Idx) 1).val = (j 1).val := by
    show 0 + 1 * (j 1).val = _; omega
  have hj : (j 0).val < 64 := (j 0).isLt
  have hx := xc_lt c
  have hy := yc_lt c
  have hk := k.isLt
  show xstg m ρ c ((xSl _ h).view.emb j) = xstg m ρ (source (yp c) (((oSl _ h').view.emb j : (S2048x512).Idx) 0).val) (inBlock ((oSl _ h').view.emb j))
  have hs : source (yp c) (((oSl _ h').view.emb j : (S2048x512).Idx) 0).val = c := by
    rw [h0]; unfold source start; rw [yc_yp, xc_yp, yp_yp, if_neg Bool.false_ne_true, if_neg (by omega), if_pos (by omega)]
  rw [hs]
  congr 1
  funext a
  apply Fin.ext
  fin_cases a
  · show (((xSl _ h).view.emb j : (S1024x512).Idx) 0).val = (((oSl _ h').view.emb j : (S2048x512).Idx) 0).val % 1024
    rw [g0, h0]; unfold start; rw [yc_yp, xc_yp, if_neg Bool.false_ne_true]; omega
  · show (((xSl _ h).view.emb j : (S1024x512).Idx) 1).val = (((oSl _ h').view.emb j : (S2048x512).Idx) 1).val
    rw [g1, h1]

/-- Rows relayed from the result of `c` to the same rows of the result of its peer across `x` are that result's. -/
theorem land_second (c : Dev nD) (k : Fin 8) {off : Fin 2 → ℕ} (ho : off = ![start c false + 64 * k.val, 0]) (h)
    (fd : (cc0_stg1_0 : Ref sig .tc).ty.Contents (Elt F)) :
    ∀ i ∈ (oSl off h).view.set, (oSl off h).view.write (Elt F) fd ((oSl off h).view.read (Elt F) (outAt m ρ c)) Finset.univ i = outAt m ρ (xp c) i := by
  intro i hi
  obtain ⟨j, -, rfl⟩ := Finset.mem_map.mp hi
  refine (View.write_emb_of_mem (v := (oSl off h).view) fd _ (Finset.mem_univ j)).trans ?_
  subst ho
  have h0 : (((oSl _ h).view.emb j : (S2048x512).Idx) 0).val = start c false + 64 * k.val + (j 0).val := by
    show start c false + 64 * k.val + 1 * (j 0).val = _; omega
  have hj : (j 0).val < 64 := (j 0).isLt
  have hx := xc_lt c
  have hy := yc_lt c
  have hk := k.isLt
  show xstg m ρ (source c (((oSl _ h).view.emb j : (S2048x512).Idx) 0).val) _ = xstg m ρ (source (xp c) (((oSl _ h).view.emb j : (S2048x512).Idx) 0).val) _
  have hs : source c (((oSl _ h).view.emb j : (S2048x512).Idx) 0).val = yp c := by
    rw [h0]; unfold source start; rw [if_neg Bool.false_ne_true, if_neg (by omega), if_pos (by omega)]
  have hs' : source (xp c) (((oSl _ h).view.emb j : (S2048x512).Idx) 0).val = yp c := by
    rw [h0]; unfold source start; rw [yc_xp, xc_xp, xp_xp, if_neg Bool.false_ne_true, if_neg (by omega), if_neg (by omega)]
  rw [hs, hs']

theorem start_xp (c : Dev nD) : start (xp c) true = start c false := by revert c; decide

/-- The device's own half, stored from its argument block. -/
theorem land_own (c : Dev nD) {off : Fin 2 → ℕ} (ho : off = ![1024 * yc c, 0]) (h)
    (fd : (cc0_stg1_0 : Ref sig .tc).ty.Contents (Elt F)) :
    ∀ i ∈ own c, ((oM.access (Rect.unit (s := S2048x512) off S1024x512.size h)) : View sig .tc _ _ _).write (Elt F) fd (xstg m ρ c) Finset.univ i = outAt m ρ c i := by
  intro i hi
  rw [mem_own] at hi
  subst ho
  have hi1 : (i 1).val < 512 := (i 1).isLt
  have hin : (i 0).val < 2048 := (i 0).isLt
  let j : (S1024x512).Idx := inBlock i
  have hj : ((oM.access (Rect.unit (s := S2048x512) ![1024 * yc c, 0] S1024x512.size h)) : View sig .tc _ _ _).emb j = i := by
    funext a
    apply Fin.ext
    fin_cases a
    · show 1024 * yc c + 1 * ((i 0).val % 1024) = (i 0).val; omega
    · show 0 + 1 * (i 1).val = (i 1).val; omega
  have hw := View.write_emb_of_mem (Val := Elt F) (v := ((oM.access (Rect.unit (s := S2048x512) ![1024 * yc c, 0] S1024x512.size h)) : View sig .tc _ _ _)) fd (xstg m ρ c) (Finset.mem_univ j)
  rw [hj] at hw
  refine hw.trans ?_
  show xstg m ρ c j = xstg m ρ (source c (i 0).val) (inBlock i)
  rw [source, if_pos hi]

/-- The own rows are the rows the kernel loads and stores. -/
theorem own_set (c : Dev nD) {off : Fin 2 → ℕ} (ho : off = ![1024 * yc c, 0]) (h) :
    ((oM.access (Rect.unit (s := S2048x512) off S1024x512.size h)) : View sig .tc _ _ _).set = own c := by
  subst ho
  refine (View.set_slice_whole cc0_stg1_0 _).trans (Finset.ext fun i => ?_)
  refine (Rect.mem_set_unit).trans (Iff.trans ?_ mem_own.symm)
  have hi1 : (i 1).val < 512 := (i 1).isLt
  have hin : (i 0).val < 2048 := (i 0).isLt
  refine ⟨fun H => ?_, fun H a => ?_⟩
  · have := H 0
    have h1 : 1024 * yc c ≤ (i 0).val := this.1
    have h2 : (i 0).val < 1024 * yc c + 1024 := this.2
    omega
  · fin_cases a
    · show 1024 * yc c ≤ (i 0).val ∧ (i 0).val < 1024 * yc c + 1024; omega
    · show 0 ≤ (i 1).val ∧ (i 1).val < 0 + 512; omega

end Cert.KernelIdeal.Gather

end
-- ==== Proof.KernelIdeal.Duties.lean ====
/-
  The exchange's rounds: what each cell's duties pay and hand over, what every device owes at launch and after each
  of its transfers, the levels that order the waits, and the pipeline's proof data.
-/
module

public import proofs.«01_k».proof.Proof.KernelIdeal.Sched

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- The peer whose rows the barrier's duty hands over: across `y` for stage one, across `x` for stage two. -/
noncomputable def peer (c : Dev nD) (b : Bool) : Dev nD := if b then xp c else yp c

/-- Chunk `i` of device `c`'s result at contents `f`, and at some contents. -/
noncomputable def chunkPts (c : Dev nD) (i : Bool × Fin 8) (f : Buf (Elt F) (oLoc c)) : sProp 𝕄 := oLoc c ↦[chunk c i]{fullShare} f
noncomputable def chunkAny (c : Dev nD) (i : Bool × Fin 8) : sProp 𝕄 := iprop(∃ f, chunkPts c i f)
/-- Piece `k` of device `c`'s own block, at the half share the transfers read it with. -/
noncomputable def piecePts (c : Dev nD) (k : Fin 8) : sProp 𝕄 := xLoc c ↦[piece c k]{fullShare.right} xstg m ρ c

/-- What a peer's signal hands device `c`: the rows of that peer's result which `c` writes. -/
noncomputable def barPay (c : Dev nD) (b : Bool) : sProp 𝕄 := bigSep Finset.univ fun k : Fin 8 => chunkAny (peer c b) (b, k)

/-- What a completed transfer hands device `c`: a send the rows it read, an arrival the rows it wrote. -/
noncomputable def xferPay (c : Dev nD) (q : Fin 4) (k : Fin 8) : sProp 𝕄 :=
  match q with
  | 0 => piecePts m ρ c k
  | 1 => chunkPts c (false, k) (outAt m ρ c)
  | 2 => chunkPts c (false, k) (outAt m ρ c)
  | 3 => chunkPts c (true, k) (outAt m ρ c)

omit [FloatOps F] in
instance chunkPts_storable (c : Dev nD) (i : Bool × Fin 8) (f) : BI.Storable (upEmb : UEmb _ 𝕄) (chunkPts (F := F) c i f) := by unfold chunkPts; infer_instance
omit [FloatOps F] in
instance chunkAny_storable (c : Dev nD) (i : Bool × Fin 8) : BI.Storable (upEmb : UEmb _ 𝕄) (chunkAny (F := F) c i) := by unfold chunkAny; infer_instance
omit [FloatOps F] in
instance piecePts_storable (c : Dev nD) (k : Fin 8) : BI.Storable (upEmb : UEmb _ 𝕄) (piecePts (F := F) m ρ c k) := by unfold piecePts; infer_instance
omit [FloatOps F] in
instance barPay_storable (c : Dev nD) (b : Bool) : BI.Storable (upEmb : UEmb _ 𝕄) (barPay (F := F) c b) := by unfold barPay; infer_instance
omit [FloatOps F] in
instance xferPay_storable (c : Dev nD) (q : Fin 4) (k : Fin 8) : BI.Storable (upEmb : UEmb _ 𝕄) (xferPay (F := F) m ρ c q k) := by
  unfold xferPay; split <;> infer_instance

/-! ## The schedule -/

/-- The credit of one transfer: 64 rows. -/
noncomputable abbrev N : ℕ := (oSl ![0, 0] (by decide)).view.dmaCredit
theorem N_pos : 0 < N := View.dmaCredit_pos _ (by decide)

/-- One round. The barrier has a duty for each of the two peers, of one unit; a transfer semaphore one duty, of a
    transfer's credit. -/
noncomputable def exRd : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with | .reg _ => barPay g.1.1 d | .dma s => xferPay m ρ g.1.1 (semRow s) (semCol s)
  amount_pos g _ _ _ := by
    cases g.2 with
    | reg _ => exact Nat.one_pos
    | dma _ => exact N_pos

instance exRd_payload_storable (g : GSem nD τ sig) (r : ℕ) (d : Bool) : BI.Storable (upEmb : UEmb _ 𝕄) ((exRd (F := F) m ρ).payload g r d) := by
  show BI.Storable upEmb (match g.2 with | .reg _ => barPay g.1.1 d | .dma s => xferPay m ρ g.1.1 (semRow s) (semCol s))
  split <;> infer_instance

section Tables
variable (c : Dev nD) (q : Fin 4) (k : Fin 8)

omit [FloatOps F] in
theorem duties_bar : (exRd (F := F) m ρ).duties (bar c) 0 = Finset.univ := rfl
omit [FloatOps F] in
theorem duties_xfer : (exRd (F := F) m ρ).duties (xfer c q k) 0 = {false} := rfl
omit [FloatOps F] in
theorem duties_later (g : GSem nD τ sig) : ∀ r, 1 ≤ r → (exRd (F := F) m ρ).duties g r = ∅ :=
  fun r hr => by dsimp only [exRd]; rw [if_neg fun h => by omega]
omit [FloatOps F] in
theorem amount_bar (d : Bool) : (exRd (F := F) m ρ).amount (bar c) 0 d = 1 := rfl
omit [FloatOps F] in
theorem amount_xfer (d : Bool) : (exRd (F := F) m ρ).amount (xfer c q k) 0 d = N := rfl
omit [FloatOps F] in
theorem expect_bar : (exRd (F := F) m ρ).expect (bar c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_xfer : (exRd (F := F) m ρ).expect (xfer c q k) 0 = N := by
  unfold Schedule.expect Schedule.amountOf; rw [duties_xfer, Finset.sum_singleton, amount_xfer]
omit [FloatOps F] in
theorem payload_bar (d : Bool) : (exRd (F := F) m ρ).payload (bar c) 0 d = barPay c d := rfl
omit [FloatOps F] in
theorem payload_xfer (d : Bool) : (exRd (F := F) m ρ).payload (xfer c q k) 0 d = xferPay m ρ c q k := by
  show xferPay m ρ c (semRow (xsem (q, k))) (semCol (xsem (q, k))) = _
  rw [semRow_xsem, semCol_xsem]
omit [FloatOps F] in
theorem rest_bar : bigSep ((exRd (F := F) m ρ).duties (bar c) 0 \ ∅) (fun d => (exRd (F := F) m ρ).payload (bar c) 0 d) = iprop(barPay c false ∗ barPay c true) := by
  rw [Finset.sdiff_empty, duties_bar, bigSep_univ_eq_bigSepL [false, true] (by decide) (by decide), bigSepL_cons_cons, bigSepL_singleton]
  rfl
omit [FloatOps F] in
theorem rest_xfer : bigSep ((exRd (F := F) m ρ).duties (xfer c q k) 0 \ ∅) (fun d => (exRd (F := F) m ρ).payload (xfer c q k) 0 d) = xferPay m ρ c q k := by
  rw [Finset.sdiff_empty, duties_xfer, bigSep_singleton, payload_xfer]

end Tables

/-! ## What a device owes -/

/-- The transfers of row `q` to device `d` still to be started, from the `n`-th on. -/
noncomputable def owed (d : Dev nD) (q : Fin 4) (n : ℕ) : CellTallies nD τ sig Unit :=
  ∑ k ∈ Finset.univ.filter (fun k : Fin 8 => n ≤ k.val), tallyAt (xfer d q k) () N

theorem owed_step (d : Dev nD) (q : Fin 4) (k : Fin 8) : owed d q k.val = owed d q (k.val + 1) + tallyAt (xfer d q k) () N := by
  unfold owed
  rw [show (Finset.univ.filter fun j : Fin 8 => k.val ≤ j.val) = insert k (Finset.univ.filter fun j : Fin 8 => k.val + 1 ≤ j.val) from by
        ext j; simp only [Finset.mem_filter, Finset.mem_univ, true_and, Finset.mem_insert, Fin.ext_iff]; omega,
    Finset.sum_insert (by simp), add_comm]
theorem owed_done (d : Dev nD) (q : Fin 4) : owed d q 8 = 0 := by
  unfold owed
  rw [show (Finset.univ.filter fun j : Fin 8 => 8 ≤ j.val) = ∅ from Finset.filter_eq_empty_iff.mpr fun j _ => by have := j.isLt; omega, Finset.sum_empty]

/-- After the two signals; and at launch, the first signal's unit (to the peer across `y`) last. -/
noncomputable def O₂ (c : Dev nD) : CellTallies nD τ sig Unit := owed (xp c) 3 0 + owed (yp c) 1 0
noncomputable def O₁ (c : Dev nD) : CellTallies nD τ sig Unit := O₂ c + tallyAt (bar (xp c)) () 1
noncomputable def O₀ (c : Dev nD) : CellTallies nD τ sig Unit := O₁ c + tallyAt (bar (yp c)) () 1

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem owed_pos {d : Dev nD} {q : Fin 4} {n : ℕ} {g : GSem nD τ sig} {u : Unit} (h : 0 < owed d q n g u) : ∃ k : Fin 8, g = xfer d q k := by
  unfold owed at h
  rw [Finset.sum_apply, Finsupp.finset_sum_apply] at h
  obtain ⟨k, -, hk⟩ := Finset.exists_ne_zero_of_sum_ne_zero (Nat.ne_of_gt h)
  exact ⟨k, tally_pos (Nat.pos_of_ne_zero hk)⟩

theorem add_pos_cases {A B : CellTallies nD τ sig Unit} {g : GSem nD τ sig} {u : Unit} (h : 0 < (A + B) g u) : 0 < A g u ∨ 0 < B g u := by
  rw [Pi.add_apply, Finsupp.add_apply] at h; omega

/-! ## Levels -/

noncomputable def L (g : GSem nD τ sig) : Finset Unit := if g.1.2 = .tc then {()} else ∅
/-- The barrier at 1, the first stage's arrivals at 2, the second's at 3, every other cell at 0. -/
noncomputable def lv (g : GSem nD τ sig) (_ : Unit) : ℕ :=
  match g.2 with
  | .reg _ => 1
  | .dma s => if 2 ≤ (s : Fin 34).val then (if semRow s = 1 then 2 else if semRow s = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (bar c) () = 1 := rfl
theorem lv_xfer (c : Dev nD) (q : Fin 4) (k : Fin 8) : lv (xfer c q k) () = if q = 1 then 2 else if q = 3 then 3 else 0 := by
  show (if 2 ≤ ((xsem (q, k) : DmaSem sig) : Fin 34).val then _ else 0) = _
  rw [if_pos (xsem_ge (q, k)), semRow_xsem]

omit [FloatOps F] in
/-- A device may wait on a cell when all it owes lies on a device's main core at a level above. -/
theorem mayWait_of (c : Dev nD) (sm : SemLoc sig) (b : ℕ) (O : CellTallies nD τ sig Unit) (hb : lv ((c : Thread nD τ), sm) () ≤ b)
    (hO : ∀ (g : GSem nD τ sig) (u : Unit), 0 < O g u → ∃ (d : Dev nD) (i : Cell), g = cell d i ∧ b < lv (cell d i) ()) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨d, i, rfl, -⟩ := hO g u hg; exact Finset.mem_singleton_self _)
    (fun p hp => by rw [Finset.mem_singleton.mp hp]; exact hb)
    (fun g u hg => by obtain ⟨d, i, rfl, h⟩ := hO g u hg; exact h)

theorem O₂_above {c : Dev nD} {g : GSem nD τ sig} {u : Unit} (h : 0 < O₂ c g u) : ∃ (d : Dev nD) (i : Cell), g = cell d i ∧ 1 < lv (cell d i) () := by
  rcases add_pos_cases h with h | h <;> obtain ⟨k, rfl⟩ := owed_pos h
  · exact ⟨xp c, some (3, k), rfl, by rw [lv_xfer]; decide⟩
  · exact ⟨yp c, some (1, k), rfl, by rw [lv_xfer]; decide⟩

theorem O₀_above {c : Dev nD} {g : GSem nD τ sig} {u : Unit} (h : 0 < O₀ c g u) : ∃ (d : Dev nD) (i : Cell), g = cell d i ∧ 0 < lv (cell d i) () := by
  rcases add_pos_cases h with h | h
  · rcases add_pos_cases h with h | h
    · obtain ⟨d, i, e, h⟩ := O₂_above h; exact ⟨d, i, e, by omega⟩
    · exact ⟨xp c, none, tally_pos h, by rw [lv_bar]; decide⟩
  · exact ⟨yp c, none, tally_pos h, by rw [lv_bar]; decide⟩

omit [FloatOps F] in
theorem mayWait_bar (c : Dev nD) : (levAts L lv : sProp 𝕄) ⊢ MayWait (c : Thread nD τ) (csem none) () (O₂ c) :=
  mayWait_of c _ 1 _ (le_of_eq (lv_bar c)) fun _ _ h => O₂_above h

omit [FloatOps F] in
/-- At the wait for a first-stage arrival only second-stage transfers are owed. -/
theorem mayWait_first (c : Dev nD) (k : Fin 8) (n : ℕ) : (levAts L lv : sProp 𝕄) ⊢ MayWait (c : Thread nD τ) (csem (some (1, k))) () (owed (xp c) 3 n) :=
  mayWait_of c _ 2 _ (le_of_eq (by rw [lv_xfer]; rfl)) fun _ _ h => by
    obtain ⟨j, rfl⟩ := owed_pos h; exact ⟨xp c, some (3, j), rfl, by rw [lv_xfer]; decide⟩

omit [FloatOps F] in
theorem mayWait_stage (c : Dev nD) (s : DmaSem sig) (hs : lv ((c : Thread nD τ), .dma s) () = 0) (O : CellTallies nD τ sig Unit) (hO : O = O₀ c ∨ O = 0) :
    (levAts L lv : sProp 𝕄) ⊢ MayWait (c : Thread nD τ) (.dma s) () O := by
  rcases hO with rfl | rfl
  · exact mayWait_of c _ 0 _ (le_of_eq hs) fun _ _ h => O₀_above h
  · rw [MayWait_zero]; iintro -; iempintro

/-! ## The ghost state of a device -/

/-- Every cell's invariant, at the names the launch gave them, and that every cell has reached its round. -/
noncomputable def records (K : Dev nD × Cell → ℕ) : sProp 𝕄 :=
  iprop((bigSep Finset.univ fun ci : Dev nD × Cell => cellInv ER (exRd m ρ) (K ci) (cell ci.1 ci.2))
    ∗ bigSep Finset.univ fun ci : Dev nD × Cell => reached ER (cell ci.1 ci.2) 0)

instance records_persistent (K : Dev nD × Cell → ℕ) : BI.Persistent (records m ρ K) := by unfold records; infer_instance

omit [FloatOps F] in
theorem inv_at (K : Dev nD × Cell → ℕ) (c : Dev nD) (i : Cell) : records m ρ K ⊢ cellInv ER (exRd m ρ) (K (c, i)) (cell c i) := by
  have h : (bigSep Finset.univ fun ci : Dev nD × Cell => (cellInv ER (exRd m ρ) (K ci) (cell ci.1 ci.2) : sProp 𝕄)) ⊢ cellInv ER (exRd m ρ) (K (c, i)) (cell c i) :=
    bigSep_elim (Finset.mem_univ (c, i))
  unfold records
  iintro ⟨H, -⟩
  iapply h
  iexact H
omit [FloatOps F] in
theorem reached_at (K : Dev nD × Cell → ℕ) (c : Dev nD) (i : Cell) : records m ρ K ⊢ reached ER (cell c i) 0 := by
  have h : (bigSep Finset.univ fun ci : Dev nD × Cell => (reached ER (cell ci.1 ci.2) 0 : sProp 𝕄)) ⊢ reached ER (cell c i) 0 :=
    bigSep_elim (Finset.mem_univ (c, i))
  unfold records
  iintro ⟨-, H⟩
  iapply h
  iexact H

/-- Eight positions, eight tokens, eight credits. -/
noncomputable def poss (c : Dev nD) (q : Fin 4) : sProp 𝕄 := bigSep Finset.univ fun k : Fin 8 => atPos ER (xfer c q k) 0 ∅ 0
noncomputable def toks (c : Dev nD) (q : Fin 4) : sProp 𝕄 := bigSep Finset.univ fun k : Fin 8 => dutyTok ER (xfer c q k) 0 false
noncomputable def creds (c : Dev nD) (q : Fin 4) : sProp 𝕄 := bigSep Finset.univ fun k : Fin 8 => cred (tallyAt (xfer c q k) () N)

/-- The positions of a device's own cells. -/
noncomputable def ownPos (c : Dev nD) : sProp 𝕄 := iprop(atPos ER (bar c) 0 ∅ 0 ∗ poss c 0 ∗ poss c 1 ∗ poss c 2 ∗ poss c 3)
/-- The tokens of the duties a device pays: its peers' barrier, its own sends, its peers' arrivals. -/
noncomputable def payToks (c : Dev nD) : sProp 𝕄 :=
  iprop(dutyTok ER (bar (yp c)) 0 false ∗ dutyTok ER (bar (xp c)) 0 true ∗ toks c 0 ∗ toks (yp c) 1 ∗ toks c 2 ∗ toks (xp c) 3)
noncomputable def ghost (K : Dev nD × Cell → ℕ) (c : Dev nD) : sProp 𝕄 := iprop(records m ρ K ∗ ownPos c ∗ payToks c)
/-- What the launch credits a device with: its barrier's two units and its sixteen arrivals. -/
noncomputable def ownCreds (c : Dev nD) : sProp 𝕄 := iprop(cred (tallyAt (bar c) () 2) ∗ creds c 1 ∗ creds c 3)

/-- What device `c`'s body starts from, and what it ends with: every one of its cells closed at zero. -/
noncomputable def Φ₀ (c : Dev nD) : sProp 𝕄 := iprop((∃ K, ghost m ρ K c) ∗ ownCreds c ∗ levAts L lv)
noncomputable def zeros (c : Dev nD) (q : Fin 4) : sProp 𝕄 := bigSep Finset.univ fun k : Fin 8 => semVal (xfer c q k) 0
noncomputable def Φ₁ (c : Dev nD) : sProp 𝕄 := iprop(semVal (bar c) 0 ∗ zeros c 0 ∗ zeros c 1 ∗ zeros c 2 ∗ zeros c 3)

/-! ## The pipeline's proof data -/

noncomputable def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
noncomputable def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.Gather

end
-- ==== Proof.KernelIdeal.Steps.lean ====
/-
  The exchange's steps: one lemma for each kind of transfer and wait, at any of the eight chunks, and the family of
  chunk states which eight applications take from all before to all after.
-/
module

public import proofs.«01_k».proof.Proof.KernelIdeal.Duties

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Eight chunks in turn -/

/-- The chunks below `n` in their later state, the others in their earlier one. -/
noncomputable def phase (n : ℕ) (pre post : Fin 8 → sProp 𝕄) : sProp 𝕄 :=
  bigSep Finset.univ fun k : Fin 8 => if k.val < n then post k else pre k

omit [FloatOps F] in
theorem phase_zero (pre post : Fin 8 → sProp 𝕄) : phase 0 pre post = bigSep Finset.univ pre := by
  unfold phase
  exact congrArg _ (funext fun k => if_neg (Nat.not_lt_zero _))

omit [FloatOps F] in
theorem phase_done (pre post : Fin 8 → sProp 𝕄) : phase 8 pre post = bigSep Finset.univ post := by
  unfold phase
  exact congrArg _ (funext fun k => if_pos k.isLt)

omit [FloatOps F] in
theorem phase_step (n : ℕ) (hn : n < 8) (pre post : Fin 8 → sProp 𝕄) :
    phase n pre post ⊢ iprop(pre ⟨n, hn⟩ ∗ (post ⟨n, hn⟩ -∗ phase (n + 1) pre post)) := by
  have h1 : phase n pre post = iprop(pre ⟨n, hn⟩ ∗ bigSep (Finset.univ.erase ⟨n, hn⟩) fun k : Fin 8 => if k.val < n + 1 then post k else pre k) := by
    unfold phase
    rw [bigSep_erase (Finset.mem_univ (⟨n, hn⟩ : Fin 8)), if_neg (Nat.lt_irrefl n)]
    congr 1
    refine bigSep_congr fun k hk => ?_
    have hne : k.val ≠ n := fun h => (Finset.mem_erase.mp hk).1 (Fin.ext h)
    by_cases h : k.val < n
    · rw [if_pos h, if_pos (by omega)]
    · rw [if_neg h, if_neg (by omega)]
  have h2 : phase (n + 1) pre post = iprop(post ⟨n, hn⟩ ∗ bigSep (Finset.univ.erase ⟨n, hn⟩) fun k : Fin 8 => if k.val < n + 1 then post k else pre k) := by
    unfold phase
    rw [bigSep_erase (Finset.mem_univ (⟨n, hn⟩ : Fin 8)), if_pos (Nat.lt_succ_self n)]
    rfl
  rw [h1, h2]
  iintro ⟨H, Hr⟩
  isplitl [H]; · iexact H
  iintro H
  isplitl [H]; · iexact H
  iexact Hr

/-! ## The steps -/

/-- What a device owes, whatever it has waited for so far. -/
noncomputable def owing (c : Dev nD) (O : CellTallies nD τ sig Unit) : sProp 𝕄 := iprop(∃ W, owes (c : Thread nD τ) O W)

/-- A first-stage send: before, the piece, the peer's rows, the two duties; after, the send's credit. -/
noncomputable def preFirst (c : Dev nD) (k : Fin 8) : sProp 𝕄 :=
  iprop(piecePts m ρ c k ∗ chunkAny (yp c) (false, k) ∗ dutyTok ER (xfer c 0 k) 0 false ∗ dutyTok ER (xfer (yp c) 1 k) 0 false)
noncomputable def postFirst (c : Dev nD) (k : Fin 8) : sProp 𝕄 := cred (tallyAt (xfer c 0 k) () N)

/-- A relay: before, the arrival's credit and position, the peer's rows, the two duties; after, the arrival's cell
    passed and the send's credit. -/
noncomputable def preRelay (c : Dev nD) (k : Fin 8) : sProp 𝕄 :=
  iprop(cred (tallyAt (xfer c 1 k) () N) ∗ atPos ER (xfer c 1 k) 0 ∅ 0 ∗ chunkAny (xp c) (true, k) ∗ dutyTok ER (xfer c 2 k) 0 false
    ∗ dutyTok ER (xfer (xp c) 3 k) 0 false)
noncomputable def postRelay (c : Dev nD) (k : Fin 8) : sProp 𝕄 :=
  iprop(atPos ER (xfer c 1 k) (0 + 1) ∅ 0 ∗ cred (tallyAt (xfer c 2 k) () N))

/-- A closing wait: before, the cell's credit and position; after, the cell passed and what it hands over. -/
noncomputable def preWait (c : Dev nD) (q : Fin 4) (k : Fin 8) : sProp 𝕄 :=
  iprop(cred (tallyAt (xfer c q k) () N) ∗ atPos ER (xfer c q k) 0 ∅ 0)
noncomputable def postWait (c : Dev nD) (q : Fin 4) (k : Fin 8) : sProp 𝕄 :=
  iprop(atPos ER (xfer c q k) (0 + 1) ∅ 0 ∗ xferPay m ρ c q k)

variable (K : Dev nD × Cell → ℕ)

/-- The first stage, the relays and the closing waits of row `q`, after `n` of the eight. -/
noncomputable def firsts (c : Dev nD) (n : ℕ) : sProp 𝕄 :=
  iprop(records m ρ K ∗ phase n (preFirst m ρ c) (postFirst c) ∗ owing c (owed (xp c) 3 0 + owed (yp c) 1 n))
noncomputable def relays (c : Dev nD) (n : ℕ) : sProp 𝕄 :=
  iprop(records m ρ K ∗ levAts L lv ∗ phase n (preRelay c) (postRelay c) ∗ owing c (owed (xp c) 3 n))
noncomputable def waits (c : Dev nD) (q : Fin 4) (n : ℕ) : sProp 𝕄 :=
  iprop(records m ρ K ∗ phase n (preWait c q) (postWait m ρ c q) ∗ owing c 0)

/-- A wait on a transfer cell, owing what it may: the cell passed, its payload taken. -/
theorem wp_wait (c : Dev nD) (q : Fin 4) (k : Fin 8) (O : CellTallies nD τ sig Unit) {s : DmaSem sig} (hs : s = xsem (q, k))
    {src dst : Memref sig .tc .vmem S64x512 .f32} {hsrc : src.view.WordExact} {hdst : dst.view.WordExact} (hN : dst.view.dmaCredit = N)
    {α : Type} {Q : α → sProp 𝕄} {κ : PUnit → Prog (TpuEff nD τ sig (Elt F) Λ₀ .tc) α} :
    iprop(records m ρ K ∗ preWait c q k ∗ MayWait (c : Thread nD τ) (csem (some (q, k))) () O ∗ owing c O)
      ⊢ iprop(((postWait m ρ c q k ∗ owing c O) -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 s src dst hsrc hdst) κ) Q) := by
  subst hs
  unfold preWait postWait owing
  iintro ⟨#Hrec, ⟨Hc, Hat⟩, HM, ⟨%W, HO⟩⟩ Hk
  ihave #HI := (inv_at m ρ K c (some (q, k))) $$ Hrec
  iapply (Rounds.wp_wait_rest_token 𝒱₀ ER (exRd m ρ) (c : Thread nD τ) none (κ := K (c, some (q, k)))
      (wpE_waitDma2_eq 𝒱₀ (c : Thread nD τ) none Set.univ) (Set.mem_univ _) () (O := O) (W := W) (R := 0) (m := 0) (T := ∅)
      (by rw [Nat.zero_add, hN]; exact (expect_xfer m ρ c q k).symm)) $$ [Hc HO HM Hat]
  · isplitr; · iexact HI
    isplitl [Hc]; · rw [hN]; iexact Hc
    isplitl [HO]; · iexact HO
    isplitl [HM]; · iexact HM
    iexact Hat
  iintro ⟨HO, Hat, -, Hpay⟩
  iapply Hk
  isplitr [HO]
  · isplitl [Hat]; · iexact Hat
    iapply (Entails.of_eq (rest_xfer m ρ c q k)); iexact Hpay
  · iexists _; iexact HO

/-- A closing wait, on any of the eight cells of a row, owing nothing. -/
theorem step_wait (c : Dev nD) (q : Fin 4) (n : ℕ) (hn : n < 8) {s : DmaSem sig} (hs : s = xsem (q, ⟨n, hn⟩))
    {src dst : Memref sig .tc .vmem S64x512 .f32} {hsrc : src.view.WordExact} {hdst : dst.view.WordExact} (hN : dst.view.dmaCredit = N)
    {α : Type} {Q : α → sProp 𝕄} {κ : PUnit → Prog (TpuEff nD τ sig (Elt F) Λ₀ .tc) α} :
    waits m ρ K c q n
      ⊢ iprop((waits m ρ K c q (n + 1)
            -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 s src dst hsrc hdst) κ) Q) := by
  unfold waits
  iintro ⟨#Hrec, Hp, HO⟩ Hk
  ihave Hp2 := (phase_step n hn (preWait c q) (postWait m ρ c q)) $$ Hp
  icases Hp2 with ⟨Hpre, Hback⟩
  iapply (wp_wait m ρ K c q ⟨n, hn⟩ 0 hs hN) $$ [Hpre HO]
  · isplitr; · iexact Hrec
    isplitl [Hpre]; · iexact Hpre
    isplitr; · rw [MayWait_zero]; iempintro
    iexact HO
  iintro ⟨Hpost, HO⟩
  iapply Hk
  isplitr; · iexact Hrec
  isplitr [HO]
  · iapply Hback; iexact Hpost
  · iexact HO

/-- The same at rows of the result, and at rows of the argument block. -/
theorem step_wait_out (c : Dev nD) (q : Fin 4) (n : ℕ) (hn : n < 8) {s : DmaSem sig} (hs : s = xsem (q, ⟨n, hn⟩))
    {src : Memref sig .tc .vmem S64x512 .f32} {off : Fin 2 → ℕ} {ho} {hsrc : src.view.WordExact} {hdst : (oSl off ho).view.WordExact}
    {α : Type} {Q : α → sProp 𝕄} {κ : PUnit → Prog (TpuEff nD τ sig (Elt F) Λ₀ .tc) α} :
    waits m ρ K c q n
      ⊢ iprop((waits m ρ K c q (n + 1) -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 s src (oSl off ho) hsrc hdst) κ) Q) :=
  step_wait m ρ K c q n hn hs (src := src) (dst := oSl off ho) (hsrc := hsrc) (hdst := hdst) rfl
theorem step_wait_arg (c : Dev nD) (q : Fin 4) (n : ℕ) (hn : n < 8) {s : DmaSem sig} (hs : s = xsem (q, ⟨n, hn⟩))
    {src : Memref sig .tc .vmem S64x512 .f32} {off : Fin 2 → ℕ} {hx} {hsrc : src.view.WordExact} {hdst : (xSl off hx).view.WordExact}
    {α : Type} {Q : α → sProp 𝕄} {κ : PUnit → Prog (TpuEff nD τ sig (Elt F) Λ₀ .tc) α} :
    waits m ρ K c q n
      ⊢ iprop((waits m ρ K c q (n + 1) -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 s src (xSl off hx) hsrc hdst) κ) Q) :=
  step_wait m ρ K c q n hn hs (src := src) (dst := xSl off hx) (hsrc := hsrc) (hdst := hdst) rfl

/-- A first-stage send, of any of the eight chunks, to the peer across `y`. -/
theorem step_first (c d : Dev nD) (hd : d = yp c) (n : ℕ) (hn : n < 8) {sa sr : DmaSem sig} (ha : sa = xsem (0, ⟨n, hn⟩)) (hr : sr = xsem (1, ⟨n, hn⟩))
    {offx offo : Fin 2 → ℕ} {hx ho} (hox : offx = ![512 * xc c + 64 * n, 0]) (hoo : offo = ![start (yp c) false + 64 * n, 0])
    {hsc : (oSl offo ho : Memref sig (Dev.tc d : Thread nD τ).2.kind .vmem S64x512 .f32).view.ref.isScScratch = false}
    {hsrc : (xSl offx hx).view.WordExact} {hdst : (oSl offo ho).view.WordExact}
    {hsem : DmaTarget.Typed .vmem (.dma sr) (.remote (Dev.tc d : Thread nD τ) (oSl offo ho : Memref sig .tc .vmem S64x512 .f32) (.dma sa) hsc)}
    {α : Type} {Q : α → sProp 𝕄} {κ : PUnit → Prog (TpuEff nD τ sig (Elt F) Λ₀ .tc) α} :
    firsts m ρ K c n
      ⊢ iprop((firsts m ρ K c (n + 1)
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma (xSl offx hx) (.remote (Dev.tc d : Thread nD τ) (oSl offo ho) (.dma sa) hsc) (.dma sr) hsrc hdst hsem) κ) Q) := by
  subst hd ha hr
  unfold firsts owing
  iintro ⟨#Hrec, Hp, ⟨%W, HO⟩⟩ Hk
  ihave Hp2 := (phase_step n hn (preFirst m ρ c) (postFirst c)) $$ Hp
  icases Hp2 with ⟨Hpre, Hback⟩
  unfold preFirst piecePts chunkAny chunkPts
  icases Hpre with ⟨Hx, ⟨%fd, Ho⟩, Ht0, Ht1⟩
  ihave #HI0 := (inv_at m ρ K c (some (0, ⟨n, hn⟩))) $$ Hrec
  ihave #HI1 := (inv_at m ρ K (yp c) (some (1, ⟨n, hn⟩))) $$ Hrec
  ihave #HR0 := (reached_at m ρ K c (some (0, ⟨n, hn⟩))) $$ Hrec
  ihave #HR1 := (reached_at m ρ K (yp c) (some (1, ⟨n, hn⟩))) $$ Hrec
  have hO : owed (xp c) 3 0 + owed (yp c) 1 n = owed (xp c) 3 0 + owed (yp c) 1 (n + 1) + tallyAt (xfer (yp c) 1 ⟨n, hn⟩) () N := by
    rw [add_assoc]; exact congrArg _ (owed_step (yp c) 1 ⟨n, hn⟩)
  have hsx : (xSl offx hx).view.set = piece c ⟨n, hn⟩ := xSl_set hox hx
  have hso : (oSl offo ho).view.set = chunk (yp c) (false, ⟨n, hn⟩) := oSl_set hoo ho
  iapply (Rounds.wp_send_pointsTo 𝒱₀ ER (exRd m ρ) (c : Thread nD τ) none (c' := (Dev.tc (yp c) : Thread nD τ)) (src := xSl offx hx) (dst := oSl offo ho) (κ₁ := K (c, some (0, ⟨n, hn⟩))) (κ₂ := K (yp c, some (1, ⟨n, hn⟩)))
    (r₁ := 0) (r₂ := 0) (d₁ := false) (d₂ := false) (q := fullShare.right) (fs := xstg m ρ c) (fd := fd)
    (Finset.mem_singleton_self _) (Finset.mem_singleton_self _)
    () () N rfl (amount_xfer m ρ c 0 ⟨n, hn⟩ false) (amount_xfer m ρ (yp c) 1 ⟨n, hn⟩ false) (owed (xp c) 3 0 + owed (yp c) 1 (n + 1))
    hO (W := W)
    (by refine Entails.of_eq ?_; rw [hsx]; exact (payload_xfer m ρ c 0 ⟨n, hn⟩ false).symm)
    (by refine Entails.of_eq ?_
        refine (pointsTo_congr (land_first m ρ c ⟨n, hn⟩ hox hoo hx ho fd)).trans ?_
        rw [hso]; exact (payload_xfer m ρ (yp c) 1 ⟨n, hn⟩ false).symm)) $$ [Hx Ho HO Ht0 Ht1]
  · isplitr; · iexact HI0
    isplitr; · iexact HI1
    isplitl [Hx]; · rw [hsx]; iexact Hx
    isplitl [Ho]; · rw [hso]; iexact Ho
    isplitl [HO]; · iexact HO
    isplitl [Ht0]; · iexact Ht0
    isplitr; · iexact HR0
    isplitl [Ht1]; · iexact Ht1
    iexact HR1
  iintro ⟨Hc, HO⟩
  iapply Hk
  isplitr; · iexact Hrec
  isplitr [HO]
  · iapply Hback; unfold postFirst; iexact Hc
  · iexists _; iexact HO

/-- A relayed send, of rows that arrived across `y`, to the peer across `x`. -/
theorem wp_relay (c d : Dev nD) (hd : d = xp c) (n : ℕ) (hn : n < 8) {sa sr : DmaSem sig} (ha : sa = xsem (2, ⟨n, hn⟩)) (hr : sr = xsem (3, ⟨n, hn⟩))
    {off : Fin 2 → ℕ} {ho} (hoo : off = ![start c false + 64 * n, 0])
    {hsc : (oSl off ho : Memref sig (Dev.tc d : Thread nD τ).2.kind .vmem S64x512 .f32).view.ref.isScScratch = false}
    {hsrc : (oSl off ho).view.WordExact} {hdst : (oSl off ho).view.WordExact}
    {hsem : DmaTarget.Typed .vmem (.dma sr) (.remote (Dev.tc d : Thread nD τ) (oSl off ho : Memref sig .tc .vmem S64x512 .f32) (.dma sa) hsc)}
    {α : Type} {Q : α → sProp 𝕄} {κ : PUnit → Prog (TpuEff nD τ sig (Elt F) Λ₀ .tc) α} :
    iprop(records m ρ K ∗ chunkPts c (false, ⟨n, hn⟩) (outAt m ρ c) ∗ chunkAny (xp c) (true, ⟨n, hn⟩) ∗ dutyTok ER (xfer c 2 ⟨n, hn⟩) 0 false
        ∗ dutyTok ER (xfer (xp c) 3 ⟨n, hn⟩) 0 false ∗ owing c (owed (xp c) 3 n))
      ⊢ iprop(((cred (tallyAt (xfer c 2 ⟨n, hn⟩) () N) ∗ owing c (owed (xp c) 3 (n + 1)))
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma (oSl off ho) (.remote (Dev.tc d : Thread nD τ) (oSl off ho) (.dma sa) hsc) (.dma sr) hsrc hdst hsem) κ) Q) := by
  subst hd ha hr
  unfold chunkAny chunkPts owing
  iintro ⟨#Hrec, Hs, ⟨%fd, Ho⟩, Ht2, Ht3, ⟨%W, HO⟩⟩ Hk
  ihave #HI2 := (inv_at m ρ K c (some (2, ⟨n, hn⟩))) $$ Hrec
  ihave #HI3 := (inv_at m ρ K (xp c) (some (3, ⟨n, hn⟩))) $$ Hrec
  ihave #HR2 := (reached_at m ρ K c (some (2, ⟨n, hn⟩))) $$ Hrec
  ihave #HR3 := (reached_at m ρ K (xp c) (some (3, ⟨n, hn⟩))) $$ Hrec
  have hss : (oSl off ho).view.set = chunk c (false, ⟨n, hn⟩) := oSl_set hoo ho
  have hsd : (oSl off ho).view.set = chunk (xp c) (true, ⟨n, hn⟩) := oSl_set (by rw [hoo]; show _ = ![start (xp c) true + 64 * n, 0]; rw [start_xp]) ho
  iapply (Rounds.wp_send_pointsTo 𝒱₀ ER (exRd m ρ) (c : Thread nD τ) none (c' := (Dev.tc (xp c) : Thread nD τ)) (src := oSl off ho) (dst := oSl off ho) (κ₁ := K (c, some (2, ⟨n, hn⟩))) (κ₂ := K (xp c, some (3, ⟨n, hn⟩)))
    (r₁ := 0) (r₂ := 0) (d₁ := false) (d₂ := false) (q := fullShare) (fs := outAt m ρ c) (fd := fd)
    (Finset.mem_singleton_self _) (Finset.mem_singleton_self _)
    () () N rfl (amount_xfer m ρ c 2 ⟨n, hn⟩ false) (amount_xfer m ρ (xp c) 3 ⟨n, hn⟩ false) (owed (xp c) 3 (n + 1))
    (owed_step (xp c) 3 ⟨n, hn⟩) (W := W)
    (by refine Entails.of_eq ?_; rw [hss]; exact (payload_xfer m ρ c 2 ⟨n, hn⟩ false).symm)
    (by refine Entails.of_eq ?_
        refine (pointsTo_congr (land_second m ρ c ⟨n, hn⟩ hoo ho fd)).trans ?_
        rw [hsd]; exact (payload_xfer m ρ (xp c) 3 ⟨n, hn⟩ false).symm)) $$ [Hs Ho HO Ht2 Ht3]
  · isplitr; · iexact HI2
    isplitr; · iexact HI3
    isplitl [Hs]; · rw [hss]; iexact Hs
    isplitl [Ho]; · rw [hsd]; iexact Ho
    isplitl [HO]; · iexact HO
    isplitl [Ht2]; · iexact Ht2
    isplitr; · iexact HR2
    isplitl [Ht3]; · iexact Ht3
    iexact HR3
  iintro ⟨Hc, HO⟩
  iapply Hk
  isplitl [Hc]; · iexact Hc
  iexists _; iexact HO

/-- A relay, of any of the eight chunks: the wait for its arrival, then its send. -/
theorem step_relay (c d : Dev nD) (hd : d = xp c) (n : ℕ) (hn : n < 8) {sw sa sr : DmaSem sig} (hw : sw = xsem (1, ⟨n, hn⟩))
    (ha : sa = xsem (2, ⟨n, hn⟩)) (hr : sr = xsem (3, ⟨n, hn⟩)) {off : Fin 2 → ℕ} {ho} (hoo : off = ![start c false + 64 * n, 0])
    {hsc : (oSl off ho : Memref sig (Dev.tc d : Thread nD τ).2.kind .vmem S64x512 .f32).view.ref.isScScratch = false}
    {hsrc₁ : (oSl off ho).view.WordExact} {hdst₁ : (oSl off ho).view.WordExact} {hsrc : (oSl off ho).view.WordExact} {hdst : (oSl off ho).view.WordExact}
    {hsem : DmaTarget.Typed .vmem (.dma sr) (.remote (Dev.tc d : Thread nD τ) (oSl off ho : Memref sig .tc .vmem S64x512 .f32) (.dma sa) hsc)}
    {α : Type} {Q : α → sProp 𝕄} {κ : PUnit → Prog (TpuEff nD τ sig (Elt F) Λ₀ .tc) α} :
    relays m ρ K c n
      ⊢ iprop((relays m ρ K c (n + 1)
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.waitDma2 sw (oSl off ho) (oSl off ho) hsrc₁ hdst₁) fun _ =>
                .op (.enqueueDma (oSl off ho) (.remote (Dev.tc d : Thread nD τ) (oSl off ho) (.dma sa) hsc) (.dma sr) hsrc hdst hsem) κ) Q) := by
  unfold relays
  iintro ⟨#Hrec, #Hlev, Hp, HO⟩ Hk
  ihave Hp2 := (phase_step n hn (preRelay c) (postRelay c)) $$ Hp
  icases Hp2 with ⟨Hpre, Hback⟩
  unfold preRelay
  icases Hpre with ⟨Hc, Hat, Hch, Ht2, Ht3⟩
  iapply (wp_wait m ρ K c 1 ⟨n, hn⟩ (owed (xp c) 3 n) hw (src := oSl off ho) (dst := oSl off ho) rfl) $$ [Hc Hat HO]
  · isplitr; · iexact Hrec
    isplitl [Hc Hat]
    · unfold preWait; isplitl [Hc]; · iexact Hc
      iexact Hat
    isplitr; · iapply (mayWait_first c ⟨n, hn⟩ n); iexact Hlev
    iexact HO
  unfold postWait
  iintro ⟨⟨Hat, Hpay⟩, HO⟩
  iapply (wp_relay m ρ K c d hd n hn ha hr hoo) $$ [Hpay Hch Ht2 Ht3 HO]
  · isplitr; · iexact Hrec
    isplitl [Hpay]; · unfold xferPay; iexact Hpay
    isplitl [Hch]; · iexact Hch
    isplitl [Ht2]; · iexact Ht2
    isplitl [Ht3]; · iexact Ht3
    iexact HO
  iintro ⟨Hc, HO⟩
  iapply Hk
  isplitr; · iexact Hrec
  isplitr; · iexact Hlev
  isplitr [HO]
  · iapply Hback; unfold postRelay
    isplitl [Hat]; · iexact Hat
    iexact Hc
  · iexact HO

/-- Eight cells of a row passed close at zero. -/
theorem close_row (c : Dev nD) (q : Fin 4) :
    iprop(records m ρ K ∗ bigSep Finset.univ fun k : Fin 8 => atPos ER (xfer c q k) (0 + 1) ∅ 0) ⊢ iprop(|={Set.univ}=> zeros c q) := by
  unfold zeros
  have hk (k : Fin 8) : iprop(records m ρ K ∗ atPos ER (xfer c q k) (0 + 1) ∅ 0) ⊢ (iprop(|={Set.univ}=> semVal (xfer c q k) 0) : sProp 𝕄) := by
    iintro ⟨#Hrec, Hat⟩
    ihave #HI := (inv_at m ρ K c (some (q, k))) $$ Hrec
    iapply (Rounds.cell_close ER (exRd m ρ) (Set.mem_univ (K (c, some (q, k)))) (fun h => h) (R := 0 + 1) (duties_later m ρ (xfer c q k)))
    isplitr; · iexact HI
    iexact Hat
  have hs : ∀ s : Finset (Fin 8), iprop(records m ρ K ∗ bigSep s fun k : Fin 8 => atPos ER (xfer c q k) (0 + 1) ∅ 0)
      ⊢ (iprop(|={Set.univ}=> bigSep s fun k : Fin 8 => semVal (xfer c q k) 0) : sProp 𝕄) := by
    intro s
    induction s using Finset.induction_on with
    | empty => rw [bigSep_empty, bigSep_empty]; iintro -; imodintro; iempintro
    | insert k s hks ih =>
      have hi (Φ : Fin 8 → sProp 𝕄) : bigSep (insert k s) Φ = iprop(Φ k ∗ bigSep s Φ) := by rw [bigSep_insert hks]; rfl
      rw [hi, hi]
      iintro ⟨#Hrec, Hat, Hs⟩
      imod (hk k) $$ [Hat] with Hz
      · isplitr; · iexact Hrec
        iexact Hat
      imod ih $$ [Hs] with Hzs
      · isplitr; · iexact Hrec
        iexact Hs
      imodintro
      isplitl [Hz]; · iexact Hz
      iexact Hzs
  exact hs Finset.univ

end Cert.KernelIdeal.Gather

end
-- ==== Proof.KernelIdeal.Body.lean ====
/-
  The body on one device, from what the launch gives it to every cell closed at zero and the result complete.
-/
module

public import proofs.«01_k».proof.Proof.KernelIdeal.Steps
public import Idealize.ShloMosaic.Lib.Pointwise.Reshape

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Splitting and joining the two buffers -/

omit [FloatOps F] in
/-- The result is the eight rows of stage one, the eight of stage two, and the device's own half. -/
theorem out_parts (c : Dev nD) (f : Buf (Elt F) (oLoc c)) :
    (oLoc c ↦{fullShare} f : sProp 𝕄)
      ⊣⊢ iprop((bigSep Finset.univ fun k : Fin 8 => chunkPts c (false, k) f) ∗ (bigSep Finset.univ fun k : Fin 8 => chunkPts c (true, k) f) ∗ oLoc c ↦[own c]{fullShare} f) := by
  have h : (bigSep Finset.univ fun i : Bool × Fin 8 => (oLoc c ↦[chunk c i]{fullShare} f : sProp 𝕄))
      = iprop((bigSep Finset.univ fun k : Fin 8 => chunkPts c (false, k) f) ∗ bigSep Finset.univ fun k : Fin 8 => chunkPts c (true, k) f) := by
    rw [bigSep_univ_prod, bigSep_univ_eq_bigSepL [false, true] (by decide) (by decide), bigSepL_cons_cons, bigSepL_singleton]
    rfl
  have hs := pointsTo_split_subset (Ix := Unit) (Name := ℕ) (U := UU) (Lvl := ℕ) (q := fullShare) (f := f) (Finset.subset_univ (Finset.univ.biUnion (chunk c)))
  have hb : (oLoc c ↦[Finset.univ.biUnion (chunk c)]{fullShare} f : sProp 𝕄) = bigSep Finset.univ fun i => oLoc c ↦[chunk c i]{fullShare} f :=
    pointsTo_biUnion (ℓ := oLoc c) Finset.univ (chunk c) (fun i _ i' _ hne => chunk_disjoint c i i' hne)
  rw [hb, h] at hs
  refine ⟨hs.1.trans ?_, BIBase.Entails.trans ?_ hs.2⟩
  · iintro ⟨⟨H1, H2⟩, H3⟩
    isplitl [H1]; · iexact H1
    isplitl [H2]; · iexact H2
    iexact H3
  · iintro ⟨H1, H2, H3⟩
    isplitr [H3]
    · isplitl [H1]; · iexact H1
      iexact H2
    · iexact H3

/-- The argument block is one half share of it whole, the eight pieces at the other half, and the rest at that half. -/
theorem x_parts (c : Dev nD) :
    (xLoc c ↦{fullShare} xstg m ρ c : sProp 𝕄)
      ⊣⊢ iprop((xLoc c ↦{fullShare.left} xstg m ρ c) ∗ (bigSep Finset.univ fun k : Fin 8 => piecePts m ρ c k)
          ∗ xLoc c ↦[Ring.restOf (piece c)]{fullShare.right} xstg m ρ c) := by
  have hq := pointsTo_share (Ix := Unit) (Name := ℕ) (U := UU) (Lvl := ℕ) (ℓ := xLoc c) (I := Finset.univ) (f := xstg m ρ c) (PosShare.mem_left_op_right fullShare)
  have hs := pointsTo_split_subset (Ix := Unit) (Name := ℕ) (U := UU) (Lvl := ℕ) (ℓ := xLoc c) (q := fullShare.right) (f := xstg m ρ c) (Finset.subset_univ (Finset.univ.biUnion (piece c)))
  have hb : (xLoc c ↦[Finset.univ.biUnion (piece c)]{fullShare.right} xstg m ρ c : sProp 𝕄) = bigSep Finset.univ fun k => piecePts m ρ c k :=
    pointsTo_biUnion (ℓ := xLoc c) Finset.univ (piece c) (fun i _ i' _ hne => piece_disjoint c i i' hne)
  rw [hb] at hs
  constructor
  · iintro H
    ihave H := hq.1 $$ H
    icases H with ⟨Hl, Hr⟩
    isplitl [Hl]; · iexact Hl
    iapply hs.1; iexact Hr
  · iintro ⟨Hl, Hr⟩
    iapply hq.2
    isplitl [Hl]; · iexact Hl
    iapply hs.2; iexact Hr

omit [FloatOps F] in
theorem some_contents (c : Dev nD) (b : Bool) (f : Buf (Elt F) (oLoc c)) :
    (bigSep Finset.univ fun k : Fin 8 => chunkPts c (b, k) f : sProp 𝕄) ⊢ bigSep Finset.univ fun k : Fin 8 => chunkAny c (b, k) := by
  have hk (k : Fin 8) : (chunkPts c (b, k) f : sProp 𝕄) ⊢ chunkAny c (b, k) := by unfold chunkAny; iintro H; iexists f; iexact H
  exact bigSep_mono fun k _ => hk k

omit [FloatOps F] in
/-- What the two signals hand over, and what the barrier's wait takes. -/
theorem bar_first (c : Dev nD) : (bigSep Finset.univ fun k : Fin 8 => chunkAny c (false, k) : sProp 𝕄) ⊢ (exRd m ρ).payload ((yp c : Thread nD τ), .reg barS) 0 false :=
  Entails.of_eq (by show _ = barPay (yp c) false; unfold barPay peer; rw [if_neg Bool.false_ne_true, yp_yp])
omit [FloatOps F] in
theorem bar_second (c : Dev nD) : (bigSep Finset.univ fun k : Fin 8 => chunkAny c (true, k) : sProp 𝕄) ⊢ (exRd m ρ).payload ((xp c : Thread nD τ), .reg barS) 0 true :=
  Entails.of_eq (by show _ = barPay (xp c) true; unfold barPay peer; rw [if_pos rfl, xp_xp])
omit [FloatOps F] in
theorem bar_taken (c : Dev nD) :
    (bigSep ((exRd m ρ).duties ((c : Thread nD τ), .reg barS) 0 \ ∅) fun d => (exRd m ρ).payload ((c : Thread nD τ), .reg barS) 0 d : sProp 𝕄)
      ⊢ iprop(barPay c false ∗ barPay c true) := Entails.of_eq (rest_bar m ρ c)

/-! ## The stages' beginnings and ends -/

variable (K : Dev nD × Cell → ℕ)

theorem firsts_start (c : Dev nD) :
    iprop(records m ρ K ∗ (bigSep Finset.univ fun k : Fin 8 => piecePts m ρ c k) ∗ barPay c false ∗ toks c 0 ∗ toks (yp c) 1 ∗ owing c (O₂ c))
      ⊢ firsts m ρ K c 0 := by
  unfold firsts
  rw [phase_zero]
  unfold preFirst barPay toks O₂
  rw [bigSep_sep', bigSep_sep', bigSep_sep']
  iintro ⟨#Hrec, H1, H2, H3, H4, HO⟩
  isplitr; · iexact Hrec
  isplitr [HO]
  · isplitl [H1]; · iexact H1
    isplitl [H2]; · iexact H2
    isplitl [H3]; · iexact H3
    iexact H4
  · iexact HO

theorem firsts_end (c : Dev nD) : firsts m ρ K c 8 ⊢ iprop(creds c 0 ∗ owing c (owed (xp c) 3 0)) := by
  unfold firsts
  rw [phase_done, owed_done, add_zero]
  unfold postFirst creds
  iintro ⟨-, H, HO⟩
  isplitl [H]; · iexact H
  iexact HO

theorem relays_start (c : Dev nD) :
    iprop(records m ρ K ∗ levAts L lv ∗ creds c 1 ∗ poss c 1 ∗ barPay c true ∗ toks c 2 ∗ toks (xp c) 3 ∗ owing c (owed (xp c) 3 0))
      ⊢ relays m ρ K c 0 := by
  unfold relays
  rw [phase_zero]
  unfold preRelay creds poss barPay toks
  rw [bigSep_sep', bigSep_sep', bigSep_sep', bigSep_sep']
  iintro ⟨#Hrec, #Hlev, H1, H2, H3, H4, H5, HO⟩
  isplitr; · iexact Hrec
  isplitr; · iexact Hlev
  isplitr [HO]
  · isplitl [H1]; · iexact H1
    isplitl [H2]; · iexact H2
    isplitl [H3]; · iexact H3
    isplitl [H4]; · iexact H4
    iexact H5
  · iexact HO

/-- Eight cells of row `q` passed. -/
noncomputable def passed (c : Dev nD) (q : Fin 4) : sProp 𝕄 := bigSep Finset.univ fun k : Fin 8 => atPos ER (xfer c q k) (0 + 1) ∅ 0

theorem relays_end (c : Dev nD) : relays m ρ K c 8 ⊢ iprop(passed c 1 ∗ creds c 2 ∗ owing c 0) := by
  unfold relays
  rw [phase_done, owed_done]
  unfold postRelay creds passed
  rw [bigSep_sep']
  iintro ⟨-, -, ⟨H1, H2⟩, HO⟩
  isplitl [H1]; · iexact H1
  isplitl [H2]; · iexact H2
  iexact HO

theorem waits_start (c : Dev nD) (q : Fin 4) : iprop(records m ρ K ∗ creds c q ∗ poss c q ∗ owing c 0) ⊢ waits m ρ K c q 0 := by
  unfold waits
  rw [phase_zero]
  unfold preWait creds poss
  rw [bigSep_sep']
  iintro ⟨#Hrec, H1, H2, HO⟩
  isplitr; · iexact Hrec
  isplitr [HO]
  · isplitl [H1]; · iexact H1
    iexact H2
  · iexact HO

theorem waits_end (c : Dev nD) (q : Fin 4) :
    waits m ρ K c q 8 ⊢ iprop(passed c q ∗ (bigSep Finset.univ fun k : Fin 8 => xferPay m ρ c q k) ∗ owing c 0) := by
  unfold waits
  rw [phase_done]
  unfold postWait passed
  rw [bigSep_sep']
  iintro ⟨-, ⟨H1, H2⟩, HO⟩
  isplitl [H1]; · iexact H1
  isplitl [H2]; · iexact H2
  iexact HO

/-! ## Where the kernel's slices lie -/

theorem off1 (c : Dev nD) (k : Fin 8) : k0_off1 c (BitVec.ofNat 32 (64 * k.val)) = ![start (yp c) false + 64 * k.val, 0] := by
  rw [k0_off1_eq]
  have h : start (yp c) false = 1024 * (c.val / 4 % 2) + 512 * (c.val / 8) := by revert c; decide
  rw [h]
theorem off2 (c : Dev nD) (k : Fin 8) : k0_off2 c (BitVec.ofNat 32 (64 * k.val)) = ![512 * xc c + 64 * k.val, 0] := k0_off2_eq c k
theorem off3 (c : Dev nD) : k0_off3 c = ![1024 * yc c, 0] := k0_off3_eq c
theorem off4 (c : Dev nD) (k : Fin 8) : k0_off4 c (BitVec.ofNat 32 (64 * k.val)) = ![start c false + 64 * k.val, 0] := by
  rw [k0_off4_eq]
  have h : (512 * (c.val / 8) + 64 * k.val + 1024) - 1024 * (c.val / 4 % 2) = start c false + 64 * k.val := by revert c k; decide
  rw [h]

/-! ## The body -/

omit [FloatOps F] in
theorem hz : (![0, 0] : Fin 2 → Nat) = fun _ => 0 := funext fun a => by fin_cases a <;> rfl

omit [FloatOps F] in
/-- The load of the whole argument block reads it. -/
theorem read_x (h) (f : (cc0_stg0_0 : Ref sig .tc).ty.Contents (Elt F)) :
    (xM : Memref sig .tc .vmem S1024x512 .f32).view.readAt (Elt F) (Rect.unit (s := S1024x512) ![0, 0] S1024x512.size h).toLoadRect f = f :=
  Memref.readAt_unit_zero (Elt F) cc0_stg0_0 hz _ f

theorem pay_eq (v : Vec F S1024x512 .f32) : k0_pay1 v = v := shapeCast_id v _

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

noncomputable def bodyPre (c : Dev nD) : sProp 𝕄 :=
  iprop((ghost m ρ K c ∗ ownCreds c ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

noncomputable def bodyPost (c : Dev nD) : sProp 𝕄 :=
  iprop(Φ₁ c ∗ (dats m ρ 0 c).owesAt () t₀.succ ∗ stg c cc0_stg0_0 (xstg m ρ c) ∗ stg c cc0_stg1_0 (outAt m ρ c))

theorem fetch_0 (t : Fin cfg0.N) : (cfg0.win (0 : Fin 2)).fetch t = true := by rw [fin_N t]; rfl

set_option maxHeartbeats 4000000 in
/-- The body in program order: the barrier with both peers, the eight first-stage sends, the own half stored, the
    eight relays, and the three rows of closing waits. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel
  simp only [semSignalWord, semWaitWord, Prog.lift, Prog.bind_op, Prog.bind_ret, Prog.pure_eq_ret, Prog.bind_assoc, wp_deviceId]
  unfold bodyPre ghost ownPos payToks ownCreds
  iintro ⟨⟨⟨⟨#Hrec, ⟨HatB, HP0, HP1, HP2, HP3⟩, HtBY, HtBX, HT0, HT1, HT2, HT3⟩, ⟨HcB, HC1, HC3⟩, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  rw [show (⟨k0_dev1 c, k0_dev1_lt c⟩ : Dev nD) = yp c from Fin.ext (k0_dev1_eq c), show (⟨k0_dev2 c, k0_dev2_lt c⟩ : Dev nD) = xp c from Fin.ext (k0_dev2_eq c)]
  ihave #HIB := (inv_at m ρ K c none) $$ Hrec
  ihave #HIBY := (inv_at m ρ K (yp c) none) $$ Hrec
  ihave #HIBX := (inv_at m ρ K (xp c) none) $$ Hrec
  ihave #HRBY := (reached_at m ρ K (yp c) none) $$ Hrec
  ihave #HRBX := (reached_at m ρ K (xp c) none) $$ Hrec
  -- the result in its parts
  ihave Hout := (out_parts c g1).1 $$ Hout
  icases Hout with ⟨HoF, HoT, Hown⟩
  ihave HoF := (some_contents c false g1) $$ HoF
  ihave HoT := (some_contents c true g1) $$ HoT
  -- the signal to the peer across `y`, with the rows it sends to
  unfold O₀
  iapply (Rounds.wp_signal 𝒱₀ ER (exRd m ρ) (c : Thread nD τ) none (dst := (yp c : Thread nD τ)) (κ := K (yp c, none))
      (d := false) (Finset.mem_univ _) ((amount_bar m ρ (yp c) false).trans (by decide)) () (O₁ c) rfl)
    $$ [HO HtBY HoF]
  · isplitr; · iexact HIBY
    isplitl [HO]; · iexact HO
    isplitl [HtBY]; · iexact HtBY
    isplitl [HoF]
    · iapply (bar_first m ρ c); iexact HoF
    · iexact HRBY
  iintro HO
  -- the signal to the peer across `x`
  unfold O₁
  iapply (Rounds.wp_signal 𝒱₀ ER (exRd m ρ) (c : Thread nD τ) none (dst := (xp c : Thread nD τ)) (κ := K (xp c, none))
      (d := true) (Finset.mem_univ _) ((amount_bar m ρ (xp c) true).trans (by decide)) () (O₂ c) rfl)
    $$ [HO HtBX HoT]
  · isplitr; · iexact HIBX
    isplitl [HO]; · iexact HO
    isplitl [HtBX]; · iexact HtBX
    isplitl [HoT]
    · iapply (bar_second m ρ c); iexact HoT
    · iexact HRBX
  iintro HO
  -- the wait for both peers' signals
  iapply (Rounds.wp_wait_rest_token 𝒱₀ ER (exRd m ρ) (c : Thread nD τ) none (κ := K (c, none))
      (wpE_semWait_eq 𝒱₀ (c : Thread nD τ) none Set.univ) (Set.mem_univ _) () (O := O₂ c) (W := W) (R := 0) (m := 0) (T := ∅)
      ((Nat.zero_add _).trans (Eq.trans (by decide) (expect_bar m ρ c).symm))) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hpay := (bar_taken m ρ c) $$ Hpay
  icases Hpay with ⟨HpF, HpT⟩
  ihave Hx := (x_parts m ρ c).1 $$ Hx
  icases Hx with ⟨HxL, HxP, HxR⟩
  -- the eight first-stage sends
  ihave H := (firsts_start m ρ K c) $$ [HxP HpF HT0 HT1 HO]
  · isplitr; · iexact Hrec
    isplitl [HxP]; · iexact HxP
    isplitl [HpF]; · iexact HpF
    isplitl [HT0]; · iexact HT0
    isplitl [HT1]; · iexact HT1
    unfold owing; iexists _; iexact HO
  iapply (step_first m ρ K c _ (Fin.ext (k0_dev3_eq c)) 0 (by decide) rfl rfl (off2 c 0) (off1 c 0)) $$ H; iintro H
  iapply (step_first m ρ K c _ (Fin.ext (k0_dev4_eq c)) 1 (by decide) rfl rfl (off2 c 1) (off1 c 1)) $$ H; iintro H
  iapply (step_first m ρ K c _ (Fin.ext (k0_dev5_eq c)) 2 (by decide) rfl rfl (off2 c 2) (off1 c 2)) $$ H; iintro H
  iapply (step_first m ρ K c _ (Fin.ext (k0_dev6_eq c)) 3 (by decide) rfl rfl (off2 c 3) (off1 c 3)) $$ H; iintro H
  iapply (step_first m ρ K c _ (Fin.ext (k0_dev7_eq c)) 4 (by decide) rfl rfl (off2 c 4) (off1 c 4)) $$ H; iintro H
  iapply (step_first m ρ K c _ (Fin.ext (k0_dev8_eq c)) 5 (by decide) rfl rfl (off2 c 5) (off1 c 5)) $$ H; iintro H
  iapply (step_first m ρ K c _ (Fin.ext (k0_dev9_eq c)) 6 (by decide) rfl rfl (off2 c 6) (off1 c 6)) $$ H; iintro H
  iapply (step_first m ρ K c _ (Fin.ext (k0_dev10_eq c)) 7 (by decide) rfl rfl (off2 c 7) (off1 c 7)) $$ H; iintro H
  ihave H := (firsts_end m ρ K c) $$ H
  icases H with ⟨HC0, HO⟩
  -- the own half, loaded and stored
  iapply (wp_load 𝒱₀ (c : Thread nD τ) none Set.univ (m := xM) (Finset.subset_univ _)) $$ HxL; iintro HxL
  rw [read_x, pay_eq]
  iapply (wp_load_rect 𝒱₀ (c : Thread nD τ) none Set.univ (m := oM) (r := Rect.unit (s := S2048x512) (k0_off3 c) S1024x512.size (k0_off3_inb c)) (S := own c) (f := g1) (own_set c (off3 c) _).subset) $$ Hown; iintro Hown
  iapply (wp_store 𝒱₀ (c : Thread nD τ) none Set.univ (m := oM) (r := Rect.unit (s := S2048x512) (k0_off3 c) S1024x512.size (k0_off3_inb c)) (S := own c) (f := g1) (Mk := Finset.univ) ((View.setOn_subset_set _ _).trans (own_set c (off3 c) _).subset)) $$ Hown; iintro Hown
  ihave Hown := (Entails.of_eq (pointsTo_congr (land_own m ρ c (off3 c) _ g1))) $$ Hown
  -- the eight relays
  ihave H := (relays_start m ρ K c) $$ [HC1 HP1 HpT HT2 HT3 HO]
  · isplitr; · iexact Hrec
    isplitr; · iexact Hlev
    isplitl [HC1]; · iexact HC1
    isplitl [HP1]; · iexact HP1
    isplitl [HpT]; · iexact HpT
    isplitl [HT2]; · iexact HT2
    isplitl [HT3]; · iexact HT3
    iexact HO
  iapply (step_relay m ρ K c _ (Fin.ext (k0_dev11_eq c)) 0 (by decide) rfl rfl rfl (off4 c 0)) $$ H; iintro H
  iapply (step_relay m ρ K c _ (Fin.ext (k0_dev12_eq c)) 1 (by decide) rfl rfl rfl (off4 c 1)) $$ H; iintro H
  iapply (step_relay m ρ K c _ (Fin.ext (k0_dev13_eq c)) 2 (by decide) rfl rfl rfl (off4 c 2)) $$ H; iintro H
  iapply (step_relay m ρ K c _ (Fin.ext (k0_dev14_eq c)) 3 (by decide) rfl rfl rfl (off4 c 3)) $$ H; iintro H
  iapply (step_relay m ρ K c _ (Fin.ext (k0_dev15_eq c)) 4 (by decide) rfl rfl rfl (off4 c 4)) $$ H; iintro H
  iapply (step_relay m ρ K c _ (Fin.ext (k0_dev16_eq c)) 5 (by decide) rfl rfl rfl (off4 c 5)) $$ H; iintro H
  iapply (step_relay m ρ K c _ (Fin.ext (k0_dev17_eq c)) 6 (by decide) rfl rfl rfl (off4 c 6)) $$ H; iintro H
  iapply (step_relay m ρ K c _ (Fin.ext (k0_dev18_eq c)) 7 (by decide) rfl rfl rfl (off4 c 7)) $$ H; iintro H
  ihave H := (relays_end m ρ K c) $$ H
  icases H with ⟨HP1, HC2, HO⟩
  -- the second stage's arrivals
  ihave H := (waits_start m ρ K c 3) $$ [HC3 HP3 HO]
  · isplitr; · iexact Hrec
    isplitl [HC3]; · iexact HC3
    isplitl [HP3]; · iexact HP3
    iexact HO
  iapply (step_wait_out m ρ K c 3 0 (by decide) rfl) $$ H; iintro H
  iapply (step_wait_out m ρ K c 3 1 (by decide) rfl) $$ H; iintro H
  iapply (step_wait_out m ρ K c 3 2 (by decide) rfl) $$ H; iintro H
  iapply (step_wait_out m ρ K c 3 3 (by decide) rfl) $$ H; iintro H
  iapply (step_wait_out m ρ K c 3 4 (by decide) rfl) $$ H; iintro H
  iapply (step_wait_out m ρ K c 3 5 (by decide) rfl) $$ H; iintro H
  iapply (step_wait_out m ρ K c 3 6 (by decide) rfl) $$ H; iintro H
  iapply (step_wait_out m ρ K c 3 7 (by decide) rfl) $$ H; iintro H
  ihave H := (waits_end m ρ K c 3) $$ H
  icases H with ⟨HP3, HoT, HO⟩
  -- the first stage's sends
  ihave H := (waits_start m ρ K c 0) $$ [HC0 HP0 HO]
  · isplitr; · iexact Hrec
    isplitl [HC0]; · iexact HC0
    isplitl [HP0]; · iexact HP0
    iexact HO
  iapply (step_wait_arg m ρ K c 0 0 (by decide) rfl) $$ H; iintro H
  iapply (step_wait_arg m ρ K c 0 1 (by decide) rfl) $$ H; iintro H
  iapply (step_wait_arg m ρ K c 0 2 (by decide) rfl) $$ H; iintro H
  iapply (step_wait_arg m ρ K c 0 3 (by decide) rfl) $$ H; iintro H
  iapply (step_wait_arg m ρ K c 0 4 (by decide) rfl) $$ H; iintro H
  iapply (step_wait_arg m ρ K c 0 5 (by decide) rfl) $$ H; iintro H
  iapply (step_wait_arg m ρ K c 0 6 (by decide) rfl) $$ H; iintro H
  iapply (step_wait_arg m ρ K c 0 7 (by decide) rfl) $$ H; iintro H
  ihave H := (waits_end m ρ K c 0) $$ H
  icases H with ⟨HP0, HxP, HO⟩
  -- the second stage's sends
  ihave H := (waits_start m ρ K c 2) $$ [HC2 HP2 HO]
  · isplitr; · iexact Hrec
    isplitl [HC2]; · iexact HC2
    isplitl [HP2]; · iexact HP2
    iexact HO
  iapply (step_wait_out m ρ K c 2 0 (by decide) rfl) $$ H; iintro H
  iapply (step_wait_out m ρ K c 2 1 (by decide) rfl) $$ H; iintro H
  iapply (step_wait_out m ρ K c 2 2 (by decide) rfl) $$ H; iintro H
  iapply (step_wait_out m ρ K c 2 3 (by decide) rfl) $$ H; iintro H
  iapply (step_wait_out m ρ K c 2 4 (by decide) rfl) $$ H; iintro H
  iapply (step_wait_out m ρ K c 2 5 (by decide) rfl) $$ H; iintro H
  iapply (step_wait_out m ρ K c 2 6 (by decide) rfl) $$ H; iintro H
  iapply (step_wait_out m ρ K c 2 7 (by decide) rfl) $$ H; iintro H
  ihave H := (waits_end m ρ K c 2) $$ H
  icases H with ⟨HP2, HoF, HO⟩
  -- every cell closes
  unfold passed
  imod (Rounds.cell_close ER (exRd m ρ) (Set.mem_univ (K (c, none))) (fun h => h) (R := 0 + 1) (duties_later m ρ (bar c))) $$ [HatB] with HzB
  · isplitr; · iexact HIB
    iexact HatB
  imod (close_row m ρ K c 0) $$ [HP0] with Hz0
  · isplitr; · iexact Hrec
    iexact HP0
  imod (close_row m ρ K c 1) $$ [HP1] with Hz1
  · isplitr; · iexact Hrec
    iexact HP1
  imod (close_row m ρ K c 2) $$ [HP2] with Hz2
  · isplitr; · iexact Hrec
    iexact HP2
  imod (close_row m ρ K c 3) $$ [HP3] with Hz3
  · isplitr; · iexact Hrec
    iexact HP3
  -- the two buffers whole again
  ihave Hx := (x_parts m ρ c).2 $$ [HxL HxP HxR]
  · isplitl [HxL]; · iexact HxL
    isplitl [HxP]; · iexact HxP
    iexact HxR
  ihave Hout := (out_parts c (outAt m ρ c)).2 $$ [HoF HoT Hown]
  · isplitl [HoF]; · iexact HoF
    isplitl [HoT]; · iexact HoT
    iexact Hown
  rw [wp_ret]; imodintro
  iapply Hk
  unfold bodyPost Φ₁ Dat.owesAt Pipeline.owesWithin owing
  icases HO with ⟨%W', HO⟩
  rw [show (dats m ρ 0 c).owed t₀.succ = 0 from rfl]
  isplitl [HzB Hz0 Hz1 Hz2 Hz3]
  · isplitl [HzB]; · iexact HzB
    isplitl [Hz0]; · iexact Hz0
    isplitl [Hz1]; · iexact Hz1
    isplitl [Hz2]; · iexact Hz2
    iexact Hz3
  isplitl [HO]
  · iexists W'
    isplitr; · ipureintro; exact fun _ _ => Or.inl trivial
    iexact HO
  isplitl [Hx]
  · iexists _; isplitr; · ipureintro; rfl
    iexact Hx
  iexists _; isplitr; · ipureintro; rfl
  iexact Hout

noncomputable def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- What the pipeline asks of the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3) (fun _ => bodyPost m ρ c)
  unfold bodyPre' Φ₀
  iintro ⟨⟨⟨%K, Hg⟩, Hc, Hlev⟩, Ho, Hx, Hout⟩
  iapply (sound_body m ρ K c fun _ => bodyPost m ρ c)
  unfold bodyPre
  isplitr []
  · isplitl [Hg Hc Hlev]
    · isplitl [Hg]; · iexact Hg
      isplitl [Hc]; · iexact Hc
      iexact Hlev
    isplitl [Ho]; · iexact Ho
    isplitl [Hx] <;> iassumption
  · iintro H; iexact H

end Cert.KernelIdeal.Gather

end
-- ==== Proof.KernelIdeal.Launch.lean ====
/-
  The launch: every device's cells set up, its tokens dealt to the devices that pay them, its credit split, and the
  run of the whole mesh with what the arrays and the semaphores hold at its end.
-/
module

public import proofs.«01_k».proof.Proof.KernelIdeal.Body
public import Idealize.ShloMosaic.Lib.Pipeline.CollectiveSegs

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's cells, tokens and elements -/

/-- The transfer semaphores are the kernel's own. -/
noncomputable abbrev osem : Fin 4 × Fin 8 → SemLoc sig := fun i => csem (some i)

theorem ownSemFacts : Pipeline.OwnSemFacts cfg0.spec osem := by decide

theorem share_eq (c : Dev nD) (w : Fin cfg0.W) : (dats m ρ 0 c).share w = fullShare := by unfold Dat.share; split <;> rfl

omit [FloatOps F] in
/-- A conjunction over an option type: the one at `none`, and the rest. -/
theorem bigSep_option {I : Type} [Fintype I] [DecidableEq I] (Φ : Option I → sProp 𝕄) :
    bigSep Finset.univ Φ = iprop(Φ none ∗ bigSep Finset.univ fun i => Φ (some i)) := by
  rw [bigSep_univ_at Φ none, show (Finset.univ.erase (none : Option I)) = Finset.univ.map Function.Embedding.some from by
    ext i; cases i <;> simp, bigSep_map]
  rfl

omit [FloatOps F] in
/-- A conjunction over a device's cells: the barrier, and the four rows of eight transfers. -/
theorem bigSep_cell (Φ : Cell → sProp 𝕄) :
    bigSep Finset.univ Φ = iprop(Φ none ∗ (bigSep Finset.univ fun k : Fin 8 => Φ (some (0, k))) ∗ (bigSep Finset.univ fun k : Fin 8 => Φ (some (1, k)))
      ∗ (bigSep Finset.univ fun k : Fin 8 => Φ (some (2, k))) ∗ (bigSep Finset.univ fun k : Fin 8 => Φ (some (3, k)))) := by
  rw [bigSep_option, bigSep_univ_prod, bigSep_univ_eq_bigSepL [0, 1, 2, 3] (by decide) (by decide)]
  rfl

theorem cells_injective : Function.Injective (fun ci : Dev nD × Cell => cell ci.1 ci.2) :=
  fun _ _ h => Prod.ext (cell_inj h).1 (cell_inj h).2
noncomputable def allCells : Finset (GSem nD τ sig) := Finset.univ.map ⟨_, cells_injective⟩

/-- The tokens minted: each cell's first duty, and the barrier's second. -/
noncomputable def tokOf (cj : Dev nD × Option Cell) : GSem nD τ sig × ℕ × Bool :=
  match cj.2 with
  | none => (bar cj.1, 0, true)
  | some i => (cell cj.1 i, 0, false)
theorem tokOf_injective : Function.Injective tokOf := by
  rintro ⟨c, j⟩ ⟨c', j'⟩ h
  cases j with
  | none => cases j' with
    | none => obtain ⟨rfl, -⟩ := cell_inj (congrArg Prod.fst h); rfl
    | some i' => exact absurd (congrArg (fun x : GSem nD τ sig × ℕ × Bool => x.2.2) h) (fun h => by cases h)
  | some i => cases j' with
    | none => exact absurd (congrArg (fun x : GSem nD τ sig × ℕ × Bool => x.2.2) h) (fun h => by cases h)
    | some i' => obtain ⟨rfl, rfl⟩ := cell_inj (congrArg Prod.fst h); rfl
noncomputable def allToks : Finset (GSem nD τ sig × ℕ × Bool) := Finset.univ.map ⟨tokOf, tokOf_injective⟩

noncomputable def u₀ : UU :=
  (initOf (Pipeline.cells cfgs cellOf_inj) (Pipeline.launchToks cfgs cellOf_inj), initOf allCells allToks)

/-- The tokens of device `c`'s own cells. -/
noncomputable def ownToks (c : Dev nD) : sProp 𝕄 :=
  iprop(dutyTok ER (bar c) 0 true ∗ dutyTok ER (bar c) 0 false ∗ toks c 0 ∗ toks c 1 ∗ toks c 2 ∗ toks c 3)

/-- What the launch deals device `c`; and what the step over all the devices makes of it. -/
noncomputable def G (c : Dev nD) : sProp 𝕄 :=
  iprop((bigSep Finset.univ fun i : Cell => roundState ER (exRd m ρ) (cell c i) 0)
    ∗ (bigSep Finset.univ fun i : Cell => iprop(atPos ER (cell c i) 0 ∅ 0 ∗ reached ER (cell c i) 0)) ∗ ownToks c)
noncomputable def G' (c : Dev nD) : sProp 𝕄 := iprop(∃ K, ghost m ρ K c)

omit [FloatOps F] in
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : Cell => Φ (cell c i) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by rw [bigSep_option, bigSep_cell]; rfl
  iintro HX
  imod (Rounds.fund ER (exRd m ρ) allCells allToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every semaphore at zero -/

omit [FloatOps F] in
/-- The barrier semaphore is the launch's one unscoped semaphore. -/
theorem unscopedSems0_eq (c : Dev nD) : (unscopedSems0 c : sProp 𝕄) = semVal (bar c) 0 := by
  unfold unscopedSems0; rw [bigSep_eq_bigSepL_of_eq [csem none] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop(zeros c 0 ∗ zeros c 1 ∗ zeros c 2 ∗ zeros c 3) := by
  unfold Pipeline.ownSems0
  rw [bigSep_univ_prod, bigSep_univ_eq_bigSepL [0, 1, 2, 3] (by decide) (by decide)]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Cell => semVal (cell c i) 0 : sProp 𝕄) := by
  rw [unscopedSems0_eq, bigSep_option]
  unfold Pipeline.ownSems0
  iintro ⟨HO, HB⟩
  isplitl [HB]; · iexact HB
  iexact HO

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Cell => iprop(∃ κ : ℕ, cellInv ER (exRd m ρ) κ (cell c i)))
          ∗ (bigSep Finset.univ fun i : Cell => iprop(atPos ER (cell c i) 0 ∅ 0 ∗ reached ER (cell c i) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun i : Cell => semVal (cell c i) 0) ∗ bigSep Finset.univ fun i : Cell => roundState ER (exRd m ρ) (cell c i) 0)
      ⊢ (|={Set.univ}=> bigSep Finset.univ fun i : Cell => iprop(∃ κ : ℕ, cellInv ER (exRd m ρ) κ (cell c i)) : sProp 𝕄) from by
        rw [← bigSep_sep']
        exact (bigSep_mono fun i _ => (Rounds.body_intro ER (exRd m ρ) (cell c i)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens to their payers -/

omit [FloatOps F] in
/-- Each token moves to the device that pays its duty: the barrier's across `y` and across `x`, an arrival's to its sender. -/
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', bigSep_sep', bigSep_sep', bigSep_sep', bigSep_sep',
    bigSep_univ_equiv xpE (fun c : Dev nD => (dutyTok ER (bar c) 0 true : sProp 𝕄)),
    bigSep_univ_equiv ypE (fun c : Dev nD => (dutyTok ER (bar c) 0 false : sProp 𝕄)),
    bigSep_univ_equiv ypE (fun c : Dev nD => (toks c 1 : sProp 𝕄)),
    bigSep_univ_equiv xpE (fun c : Dev nD => (toks c 3 : sProp 𝕄))]
  iintro ⟨Ht, Hf, H0, H1, H2, H3⟩
  isplitl [Hf]; · iexact Hf
  isplitl [Ht]; · iexact Ht
  isplitl [H0]; · iexact H0
  isplitl [H1]; · iexact H1
  isplitl [H2]; · iexact H2
  iexact H3

omit [FloatOps F] in
theorem ghost_intro (K : Dev nD × Cell → ℕ) (c : Dev nD) : iprop(records m ρ K ∗ (ownPos c ∗ payToks c)) ⊢ G' m ρ c := by
  unfold G' ghost
  iintro ⟨HR, HP, HT⟩
  iexists K
  isplitl [HR]; · iexact HR
  isplitl [HP]; · iexact HP
  iexact HT

omit [FloatOps F] in
/-- A persistent fact serves every member of a conjunction. -/
theorem share_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun i : Cell => iprop(∃ κ : ℕ, cellInv ER (exRd m ρ) κ (cell c i)))
          ∗ (bigSep Finset.univ fun i : Cell => iprop(atPos ER (cell c i) 0 ∅ 0 ∗ reached ER (cell c i) 0)) ∗ ownToks c) : sProp 𝕄)
      ⊢ bigSep Finset.univ (G' m ρ) := by
  rw [bigSep_sep', bigSep_sep', ← bigSep_univ_prod (fun ci : Dev nD × Cell => iprop(∃ κ : ℕ, cellInv ER (exRd m ρ) κ (cell ci.1 ci.2))),
    bigSep_congr (s := Finset.univ) (fun (c : Dev nD) _ => bigSep_sep' Finset.univ (fun i : Cell => (atPos ER (cell c i) 0 ∅ 0 : sProp 𝕄)) (fun i => reached ER (cell c i) 0)),
    bigSep_sep', ← bigSep_univ_prod (fun ci : Dev nD × Cell => (reached ER (cell ci.1 ci.2) 0 : sProp 𝕄))]
  iintro ⟨HI, ⟨Hat, #HR⟩, Htok⟩
  ihave HK := (BI.bigSep_exists_pi Finset.univ (fun (ci : Dev nD × Cell) (κ : ℕ) => (cellInv ER (exRd m ρ) κ (cell ci.1 ci.2) : sProp 𝕄))) $$ HI
  icases HK with ⟨%K, #HI⟩
  ihave Htk := (toks_around (F := F)) $$ Htok
  iapply (share_persistent (R := records m ρ K) fun c _ => ghost_intro m ρ K c)
  isplitr
  · unfold records; isplitl; · iexact HI
    iexact HR
  · iapply (Entails.of_eq (bigSep_sep' Finset.univ (fun c : Dev nD => (ownPos c : sProp 𝕄)) payToks).symm)
    isplitl [Hat]
    · iapply (show (bigSep Finset.univ fun c : Dev nD => bigSep Finset.univ fun i : Cell => (atPos ER (cell c i) 0 ∅ 0 : sProp 𝕄)) ⊢ bigSep Finset.univ fun c : Dev nD => ownPos c from
        bigSep_mono fun c _ => Entails.of_eq (bigSep_cell fun i : Cell => (atPos ER (cell c i) 0 ∅ 0 : sProp 𝕄)))
      iexact Hat
    iexact Htk

omit [FloatOps F] in
/-- The step over every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

omit [FloatOps F] in
theorem launch_row (q : Fin 4) (e : Dev nD → Dev nD) (he : ∀ c, e (e c) = c) (c : Dev nD) :
    (Pipeline.launchCred (fun d => owed (e d) q 0) c : sProp 𝕄) ⊢ creds c q := by
  rw [show (fun d => owed (e d) q 0) = fun d => ∑ k ∈ (Finset.univ : Finset (Fin 8)), tallyAt (xfer (e d) q k) () N from
    funext fun d => Finset.sum_congr (Finset.filter_true_of_mem fun _ _ => Nat.zero_le _) fun _ _ => rfl]
  rw [Pipeline.launchCred_sum Finset.univ (fun (k : Fin 8) (d : Dev nD) => (tallyAt (xfer (e d) q k) () N : CellTallies nD τ sig Unit)) c]
  exact bigSep_mono fun k _ => Pipeline.launchCred_tallyAt (csem (some (q, k))) e e he he () N c

omit [FloatOps F] in
theorem creds_intro (c : Dev nD) : (Pipeline.launchCred O₀ c : sProp 𝕄) ⊢ ownCreds c := by
  have hy : (Pipeline.launchCred (fun d => tallyAt (bar (yp d)) () 1) c : sProp 𝕄) ⊢ cred (tallyAt (bar c) () 1) :=
    Pipeline.launchCred_tallyAt (csem none) yp yp yp_yp yp_yp () 1 c
  have hx : (Pipeline.launchCred (fun d => tallyAt (bar (xp d)) () 1) c : sProp 𝕄) ⊢ cred (tallyAt (bar c) () 1) :=
    Pipeline.launchCred_tallyAt (csem none) xp xp xp_xp xp_xp () 1 c
  have h3 : (Pipeline.launchCred (fun d => owed (xp d) 3 0) c : sProp 𝕄) ⊢ creds c 3 := launch_row 3 xp xp_xp c
  have h1 : (Pipeline.launchCred (fun d => owed (yp d) 1 0) c : sProp 𝕄) ⊢ creds c 1 := launch_row 1 yp yp_yp c
  have h2 : iprop(cred (tallyAt (bar c) () 1) ∗ cred (tallyAt (bar c) () 1)) ⊢ (cred (tallyAt (bar c) () 2) : sProp 𝕄) := by
    rw [← tallyAt_add (bar c) () 1 1]; exact (cred_add _ _).2
  rw [show (O₀ : Dev nD → CellTallies nD τ sig Unit) = fun d => (owed (xp d) 3 0 + owed (yp d) 1 0 + tallyAt (bar (xp d)) () 1) + tallyAt (bar (yp d)) () 1 from rfl,
    Pipeline.launchCred_add, Pipeline.launchCred_add, Pipeline.launchCred_add]
  unfold ownCreds
  iintro ⟨⟨⟨H3, H1⟩, Hx⟩, Hy⟩
  isplitl [Hx Hy]
  · iapply h2
    isplitl [Hx]
    · iapply hx; iexact Hx
    · iapply hy; iexact Hy
  isplitl [H1]
  · iapply h1; iexact H1
  · iapply h3; iexact H3

/-! ## The run's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Φ₀ m ρ c ∗ emp) := by
  iintro ⟨-, Hlev, Hcr, -, HG⟩
  ihave Hc := (creds_intro (F := F) c) $$ Hcr
  imodintro
  unfold Φ₀ G'
  isplitl
  · isplitl [HG]; · iexact HG
    isplitl [Hc]; · iexact Hc
    iexact Hlev
  · iempintro

theorem phi0_intro (c : Dev nD) :
    iprop(Φ₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨HB, HZ⟩
  isplitl [HB]; · iexact HB
  isplitl [HZ]; · iexact HZ
  iempintro

theorem waits_ok (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- What a window's array holds after the run. -/
noncomputable def finalA (c : Dev nD) (w : Fin cfg0.W) : Buf (Elt F) ((cfg0.win w).arr.view.loc (c : Thread nD τ)) := (dats m ρ 0 c).arrAt w cfg0.N

set_option maxRecDepth 8000 in
/-- Every weakly fair execution terminates, and at its end every window's array holds `finalA` and every semaphore zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_ok m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := Φ₀ m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array, read as the result window's one block, holds the computed contents. -/
theorem finalA_o (c : Dev nD) : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Cert.KernelIdeal.Gather

end
-- ==== Proof.KernelIdeal.Value.lean ====
/-
  What the run leaves in the arrays: every device's result is the whole array whose parts the devices began with.
-/
module

public import proofs.«01_k».proof.Proof.KernelIdeal.Launch
public import Idealize.ShloMosaic.Lib.Layout

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## From the buffers to the arrays -/

/-- Device `c`'s argument block is its argument array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- Device `c`'s result array ends at the computed contents. -/
theorem result_eq (c : Dev nD) : finalA m ρ c (1 : Fin 2) = outAt m ρ c := by
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans (finalA_o m ρ c)

/-! ## The whole array -/

/-- The device a row comes from lies in the half of the mesh that holds it. -/
theorem yc_source (c : Dev nD) (n : ℕ) (hn : n < 2048) : yc (source c n) = n / 1024 := by
  have hy := yc_lt c
  unfold source
  split_ifs with h1 h2
  · exact h1.symm
  · rw [yc_yp]; omega
  · rw [yc_yp, yc_xp]; omega

/-- The part of the whole array that device `c` holds. -/
noncomputable abbrev partOf (v : (S2048x512).Idx → Elt F .f32) (c : Dev nD) : (S1024x512).Idx → Elt F .f32 :=
  Layout.blockN ⟨2, ![1024, 512]⟩ ⟨2, ![2048, 512]⟩ (Layout.meshBlock [2, 2, 4] ![[1], []] c) v

theorem block_row (c : Dev nD) : ((Layout.meshBlock [2, 2, 4] ![[1], []] c : (b : Fin 2) → _) (0 : Fin 2)).val = yc c := by revert c; decide

/-- A device's part, at a place: the whole array at that row of the device's half. -/
theorem partOf_apply (v : (S2048x512).Idx → Elt F .f32) (c : Dev nD) (j : (S1024x512).Idx) (i : (S2048x512).Idx)
    (h0 : (i 0).val = 1024 * yc c + (j 0).val) (h1 : (i 1).val = (j 1).val) : partOf v c j = v i := by
  refine congrArg v (funext fun a => Fin.ext ?_)
  fin_cases a
  · show ((Layout.meshBlock [2, 2, 4] ![[1], []] c : (b : Fin 2) → _) (0 : Fin 2)).val * 1024 + (j 0).val = (i 0).val
    rw [block_row, h0, Nat.mul_comm]
  · show 0 * 512 + (j 1).val = (i 1).val
    rw [h1]; omega

/-- When each device's argument array holds its part of an array, each device's result array ends at that array. -/
theorem gathered (v : (S2048x512).Idx → Elt F .f32) (h : ∀ c : Dev nD, m ((c : Thread nD τ).loc main_arg0) = partOf v c) (c : Dev nD) :
    finalA m ρ c (1 : Fin 2) = v := by
  rw [result_eq]
  funext i
  have hi : ((i : (S2048x512).Idx) 0).val < 2048 := ((i : (S2048x512).Idx) 0).isLt
  show xstg m ρ (source c ((i : (S2048x512).Idx) 0).val) (inBlock i) = v i
  rw [xstg_eq, h]
  refine partOf_apply v _ _ i ?_ rfl
  rw [yc_source c _ hi]
  show ((i : (S2048x512).Idx) 0).val = 1024 * (((i : (S2048x512).Idx) 0).val / 1024) + ((i : (S2048x512).Idx) 0).val % 1024
  omega

/-! ## The claims -/

/-- The run leaves the argument arrays as they were and every semaphore at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

/-- The run leaves every device's result array at the whole array and its argument array as it was. -/
theorem run_value (v : (S2048x512).Idx → Elt F .f32) (h : ∀ c : Dev nD, m ((c : Thread nD τ).loc main_arg0) = partOf v c) :
    θ_run defs (onTc (τ := τ) (main (F := F))) ⟨m, fun _ => 0, ρ⟩ (fun r => ∀ c : Dev nD,
      r.2.mem ((c.tc : Thread nD τ).loc main_v1) = v
      ∧ r.2.mem ((c.tc : Thread nD τ).loc main_arg0) = m ((c.tc : Thread nD τ).loc main_arg0)) :=
  (θ_run defs _ _).mono (fun _ hr c => ⟨(hr.1 c (1 : Fin 2)).trans (gathered m ρ v h c), (hr.1 c (0 : Fin 2)).trans (finalA_x m ρ c)⟩) (run_main m ρ)

end Cert.KernelIdeal.Gather

end
-- ==== Proof.Reference.lean ====
/-
  The reference's run: it returns its argument, so every buffer ends as it began.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Whole

open Cert.ReferenceIdeal Cert.ReferenceIdeal.Gen

open Idealize.ShloMosaic
open Idealize.ShloMosaic.TcCoe
open Idealize.SL.Sem

variable {F : FTy → Type} [FloatOps F]

/-- Every weakly fair execution terminates, with the argument array as it was and every semaphore at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Value
public import proofs.«01_k».proof.Proof.KernelIdeal.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel ends with its arguments as they were and every semaphore at zero, -/
theorem frame_kernel : Cert.quiescent_Kernel := fun m ρ _ => Cert.Kernel.Gather.run_frame m ρ

/-- so does its reading over the extended reals, -/
theorem frame_ideal : Cert.quiescent_KernelIdeal := fun m ρ _ => Cert.KernelIdeal.Gather.run_frame m ρ

/-- and so does the reference. -/
theorem frame_reference : Cert.quiescent_ReferenceIdeal := fun m ρ _ => Cert.ReferenceIdeal.Whole.run_main m ρ

/-- Every device ends with the whole array, which is what the reference returns. -/
theorem value : Cert.algebraic_KernelIdeal_ReferenceIdeal := by
  intro m ρ m' ρ' _ hparts
  refine ⟨m' (((0 : Dev Cert.ReferenceIdeal.nD).tc : Thread _ Cert.ReferenceIdeal.τ).loc Cert.ReferenceIdeal.main_arg0), ?_, ?_⟩
  · exact Cert.KernelIdeal.Gather.run_value m ρ _ hparts
  · exact (θ_run Cert.ReferenceIdeal.defs _ _).mono (fun _ h => ⟨h.1 0, h.1 0⟩) (Cert.ReferenceIdeal.Whole.run_main m' ρ')

theorem claim : Cert.Claim := ⟨Cert.Kernel.Gen.facts, Cert.KernelIdeal.Gen.facts, Cert.ReferenceIdeal.Gen.facts,
  frame_kernel, frame_ideal, frame_reference, trivial, value⟩

end Cert.Proof

end
